-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S32x32x8192 : Shape := ⟨3, ![32, 32, 8192]⟩
abbrev S1x16x16 : Shape := ⟨3, ![1, 16, 16]⟩
abbrev S16x2x3x1 : Shape := ⟨4, ![16, 2, 3, 1]⟩
abbrev S16 : Shape := ⟨1, ![16]⟩
abbrev S16x2x1x1 : Shape := ⟨4, ![16, 2, 1, 1]⟩
abbrev S16x16x3x1 : Shape := ⟨4, ![16, 16, 3, 1]⟩
abbrev S_ : Shape := ⟨0, ![]⟩

class Facts : Prop where
  bcast_S_S1x16x16 : S_.BroadcastsInDim S1x16x16 (![] : Fin 0 → Fin S1x16x16.rank)
  reducesTo_S1x16x16_S_d0_1_2 : S1x16x16.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S32x32x8192 .f32) (main_arg1 : FVec F S1x16x16 .f32) (main_arg2 : FVec F S16x2x3x1 .f32) (main_arg3 : FVec F S16 .f32) (main_arg4 : FVec F S16 .f32) (main_arg5 : FVec F S16 .f32) (main_arg6 : FVec F S16x2x1x1 .f32) (main_arg7 : FVec F S16 .f32) (main_arg8 : FVec F S16x16x3x1 .f32) (main_arg9 : FVec F S16 .f32) (main_arg10 : FVec F S16 .f32) (main_arg11 : FVec F S16 .f32) : IVec S_ 1 :=
  let main_cst : FVec F S_ .f32 := constant S_ .f32 0x3D800000#32
  let main_v0 : FVec F S1x16x16 .f32 := broadcastInDim S1x16x16 ![] bcast_S_S1x16x16 main_cst
  let main_v1 : IVec S1x16x16 1 := cmpf .oeq main_arg1 main_v0
  let main_c : IVec S_ 1 := constantI S_ 1 1#1
  let main_v2 : IVec S_ 1 := (fun x v => Host.reduce IntOp.andi x v reducesTo_S1x16x16_S_d0_1_2 h_S_) main_v1 main_c
  let main_v3 : FVec F S16 .f32 := Host.absf main_arg4
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_c_1 : IVec S_ 1 := constantI S_ 1 1#1
  let main_v6 : IVec S_ 1 := (fun x v => Host.reduce IntOp.andi x v reducesTo_S16_S_d0 h_S_) main_v5 main_c_1
  let main_v7 : IVec S_ 1 := andi main_v2 main_v6
  let main_v8 : FVec F S16 .f32 := Host.absf main_arg10
  let main_cst_2 : FVec F S_ .f32 := constant S_ .f32 0x7F800000#32
  let main_v9 : FVec F S16 .f32 := broadcastInDim S16 ![] bcast_S_S16 main_cst_2
  let main_v10 : IVec S16 1 := cmpf .olt main_v8 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v7 main_v11
  main_v12
-- ==== Kernel.lean ====
abbrev S32x32x8192 : Shape := ⟨3, ![32, 32, 8192]⟩
abbrev S1x16x16 : Shape := ⟨3, ![1, 16, 16]⟩
abbrev S16x2x3x1 : Shape := ⟨4, ![16, 2, 3, 1]⟩
abbrev S16 : Shape := ⟨1, ![16]⟩
abbrev S16x2x1x1 : Shape := ⟨4, ![16, 2, 1, 1]⟩
abbrev S16x16x3x1 : Shape := ⟨4, ![16, 16, 3, 1]⟩
abbrev S16x2 : Shape := ⟨2, ![16, 2]⟩
abbrev S1x16x1x2 : Shape := ⟨4, ![1, 16, 1, 2]⟩
abbrev S1x16x16x2 : Shape := ⟨4, ![1, 16, 16, 2]⟩
abbrev S16x32 : Shape := ⟨2, ![16, 32]⟩
abbrev S1x16x32 : Shape := ⟨3, ![1, 16, 32]⟩
abbrev S3x16x32 : Shape := ⟨3, ![3, 16, 32]⟩
abbrev S_ : Shape := ⟨0, ![]⟩
abbrev S16x16x1x1 : Shape := ⟨4, ![16, 16, 1, 1]⟩
abbrev S16x16 : Shape := ⟨2, ![16, 16]⟩
abbrev S3x16x16 : Shape := ⟨3, ![3, 16, 16]⟩
abbrev S16x1 : Shape := ⟨2, ![16, 1]⟩
abbrev S32x16x8192 : Shape := ⟨3, ![32, 16, 8192]⟩
abbrev S16x128 : Shape := ⟨2, ![16, 128]⟩
abbrev S1x32x8192 : Shape := ⟨3, ![1, 32, 8192]⟩
abbrev S1x16x8192 : Shape := ⟨3, ![1, 16, 8192]⟩
abbrev S32x8192 : Shape := ⟨2, ![32, 8192]⟩
abbrev S32x1 : Shape := ⟨2, ![32, 1]⟩
abbrev S32x8193 : Shape := ⟨2, ![32, 8193]⟩
abbrev S32x8194 : Shape := ⟨2, ![32, 8194]⟩
abbrev S1x8192 : Shape := ⟨2, ![1, 8192]⟩
abbrev S16x8192 : Shape := ⟨2, ![16, 8192]⟩
abbrev S16x8193 : Shape := ⟨2, ![16, 8193]⟩
abbrev S16x8194 : Shape := ⟨2, ![16, 8194]⟩
abbrev S32x16x16x8192 : Shape := ⟨4, ![32, 16, 16, 8192]⟩
abbrev S1x16x16x8192 : Shape := ⟨4, ![1, 16, 16, 8192]⟩
abbrev S1x16x1x8192 : Shape := ⟨4, ![1, 16, 1, 8192]⟩
abbrev S32x16x8192x16 : Shape := ⟨4, ![32, 16, 8192, 16]⟩

abbrev nBuf : Space → Nat
  | .hbm => 101
  | .vmem => 36
  | .smem => 0
  | _ => 0

abbrev bufTy : (tb : Table) → Fin (tcTables nBuf tb) → BufTy
  | .hbm, ⟨0, _⟩ => ⟨S32x32x8192, .f32⟩
  | .hbm, ⟨1, _⟩ => ⟨S1x16x16, .f32⟩
  | .hbm, ⟨2, _⟩ => ⟨S16x2x3x1, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16x2x1x1, .f32⟩
  | .hbm, ⟨7, _⟩ => ⟨S16, .f32⟩
  | .hbm, ⟨8, _⟩ => ⟨S16x16x3x1, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16x2x1x1, .f32⟩
  | .hbm, ⟨13, _⟩ => ⟨S16x2, .f32⟩
  | .hbm, ⟨14, _⟩ => ⟨S1x16x1x2, .f32⟩
  | .hbm, ⟨15, _⟩ => ⟨S1x16x16x2, .f32⟩
  | .hbm, ⟨16, _⟩ => ⟨S16x32, .f32⟩
  | .hbm, ⟨17, _⟩ => ⟨S16x2x1x1, .f32⟩
  | .hbm, ⟨18, _⟩ => ⟨S16x2, .f32⟩
  | .hbm, ⟨19, _⟩ => ⟨S1x16x1x2, .f32⟩
  | .hbm, ⟨20, _⟩ => ⟨S1x16x16x2, .f32⟩
  | .hbm, ⟨21, _⟩ => ⟨S16x32, .f32⟩
  | .hbm, ⟨22, _⟩ => ⟨S16x2x1x1, .f32⟩
  | .hbm, ⟨23, _⟩ => ⟨S16x2, .f32⟩
  | .hbm, ⟨24, _⟩ => ⟨S1x16x1x2, .f32⟩
  | .hbm, ⟨25, _⟩ => ⟨S1x16x16x2, .f32⟩
  | .hbm, ⟨26, _⟩ => ⟨S16x32, .f32⟩
  | .hbm, ⟨27, _⟩ => ⟨S1x16x32, .f32⟩
  | .hbm, ⟨28, _⟩ => ⟨S1x16x32, .f32⟩
  | .hbm, ⟨29, _⟩ => ⟨S1x16x32, .f32⟩
  | .hbm, ⟨30, _⟩ => ⟨S3x16x32, .f32⟩
  | .hbm, ⟨31, _⟩ => ⟨S_, .f32⟩
  | .hbm, ⟨32, _⟩ => ⟨S3x16x32, .f32⟩
  | .hbm, ⟨33, _⟩ => ⟨S3x16x32, .f32⟩
  | .hbm, ⟨34, _⟩ => ⟨S16x16x1x1, .f32⟩
  | .hbm, ⟨35, _⟩ => ⟨S16x16, .f32⟩
  | .hbm, ⟨36, _⟩ => ⟨S16x16x1x1, .f32⟩
  | .hbm, ⟨37, _⟩ => ⟨S16x16, .f32⟩
  | .hbm, ⟨38, _⟩ => ⟨S16x16x1x1, .f32⟩
  | .hbm, ⟨39, _⟩ => ⟨S16x16, .f32⟩
  | .hbm, ⟨40, _⟩ => ⟨S1x16x16, .f32⟩
  | .hbm, ⟨41, _⟩ => ⟨S1x16x16, .f32⟩
  | .hbm, ⟨42, _⟩ => ⟨S1x16x16, .f32⟩
  | .hbm, ⟨43, _⟩ => ⟨S3x16x16, .f32⟩
  | .hbm, ⟨44, _⟩ => ⟨S16x2, .f32⟩
  | .hbm, ⟨45, _⟩ => ⟨S16x1, .f32⟩
  | .hbm, ⟨46, _⟩ => ⟨S32x16x8192, .f32⟩
  | .hbm, ⟨47, _⟩ => ⟨S16x128, .f32⟩
  | .hbm, ⟨48, _⟩ => ⟨S16x128, .f32⟩
  | .hbm, ⟨49, _⟩ => ⟨S16x1, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16x1, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S16, .f32⟩
  | .hbm, ⟨67, _⟩ => ⟨S16, .f32⟩
  | .hbm, ⟨68, _⟩ => ⟨S16x1, .f32⟩
  | .hbm, ⟨69, _⟩ => ⟨S16x1, .f32⟩
  | .hbm, ⟨70, _⟩ => ⟨S16x1, .f32⟩
  | .hbm, ⟨71, _⟩ => ⟨S16x1, .f32⟩
  | .hbm, ⟨72, _⟩ => ⟨S32x16x8192, .f32⟩
  | .hbm, ⟨73, _⟩ => ⟨S16x128, .f32⟩
  | .hbm, ⟨74, _⟩ => ⟨S16x128, .f32⟩
  | .hbm, ⟨75, _⟩ => ⟨S16x1, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S16x1, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S16, .f32⟩
  | .hbm, ⟨91, _⟩ => ⟨S16, .f32⟩
  | .hbm, ⟨92, _⟩ => ⟨S16, .f32⟩
  | .hbm, ⟨93, _⟩ => ⟨S16, .f32⟩
  | .hbm, ⟨94, _⟩ => ⟨S16x1, .f32⟩
  | .hbm, ⟨95, _⟩ => ⟨S16x1, .f32⟩
  | .hbm, ⟨96, _⟩ => ⟨S16x1, .f32⟩
  | .hbm, ⟨97, _⟩ => ⟨S16x1, .f32⟩
  | .hbm, ⟨98, _⟩ => ⟨S16x1, .f32⟩
  | .hbm, ⟨99, _⟩ => ⟨S32x16x16x8192, .f32⟩
  | .hbm, ⟨100, _⟩ => ⟨S32x16x8192x16, .f32⟩
  | .local _ .vmem, ⟨0, _⟩ => ⟨S1x32x8192, .f32⟩
  | .local _ .vmem, ⟨1, _⟩ => ⟨S1x32x8192, .f32⟩
  | .local _ .vmem, ⟨2, _⟩ => ⟨S3x16x32, .f32⟩
  | .local _ .vmem, ⟨3, _⟩ => ⟨S16x1, .f32⟩
  | .local _ .vmem, ⟨4, _⟩ => ⟨S1x16x8192, .f32⟩
  | .local _ .vmem, ⟨5, _⟩ => ⟨S1x16x8192, .f32⟩
  | .local _ .vmem, ⟨6, _⟩ => ⟨S16x128, .f32⟩
  | .local _ .vmem, ⟨7, _⟩ => ⟨S16x128, .f32⟩
  | .local _ .vmem, ⟨8, _⟩ => ⟨S1x32x8192, .f32⟩
  | .local _ .vmem, ⟨9, _⟩ => ⟨S1x32x8192, .f32⟩
  | .local _ .vmem, ⟨10, _⟩ => ⟨S1x16x8192, .f32⟩
  | .local _ .vmem, ⟨11, _⟩ => ⟨S1x16x8192, .f32⟩
  | .local _ .vmem, ⟨12, _⟩ => ⟨S16x1, .f32⟩
  | .local _ .vmem, ⟨13, _⟩ => ⟨S16x1, .f32⟩
  | .local _ .vmem, ⟨14, _⟩ => ⟨S16x2, .f32⟩
  | .local _ .vmem, ⟨15, _⟩ => ⟨S16x1, .f32⟩
  | .local _ .vmem, ⟨16, _⟩ => ⟨S3x16x16, .f32⟩
  | .local _ .vmem, ⟨17, _⟩ => ⟨S16x1, .f32⟩
  | .local _ .vmem, ⟨18, _⟩ => ⟨S1x16x8192, .f32⟩
  | .local _ .vmem, ⟨19, _⟩ => ⟨S1x16x8192, .f32⟩
  | .local _ .vmem, ⟨20, _⟩ => ⟨S16x128, .f32⟩
  | .local _ .vmem, ⟨21, _⟩ => ⟨S16x128, .f32⟩
  | .local _ .vmem, ⟨22, _⟩ => ⟨S1x32x8192, .f32⟩
  | .local _ .vmem, ⟨23, _⟩ => ⟨S1x32x8192, .f32⟩
  | .local _ .vmem, ⟨24, _⟩ => ⟨S1x16x8192, .f32⟩
  | .local _ .vmem, ⟨25, _⟩ => ⟨S1x16x8192, .f32⟩
  | .local _ .vmem, ⟨26, _⟩ => ⟨S1x16x8192, .f32⟩
  | .local _ .vmem, ⟨27, _⟩ => ⟨S1x16x8192, .f32⟩
  | .local _ .vmem, ⟨28, _⟩ => ⟨S16x1, .f32⟩
  | .local _ .vmem, ⟨29, _⟩ => ⟨S16x1, .f32⟩
  | .local _ .vmem, ⟨30, _⟩ => ⟨S16x1, .f32⟩
  | .local _ .vmem, ⟨31, _⟩ => ⟨S16x1, .f32⟩
  | .local _ .vmem, ⟨32, _⟩ => ⟨S16x2, .f32⟩
  | .local _ .vmem, ⟨33, _⟩ => ⟨S16x1, .f32⟩
  | .local _ .vmem, ⟨34, _⟩ => ⟨S1x16x16x8192, .f32⟩
  | .local _ .vmem, ⟨35, _⟩ => ⟨S1x16x16x8192, .f32⟩
  | _, _ => ⟨S32x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v34 : Ref sig .tc := ⟨.hbm, 49, rfl⟩
abbrev main_v35 : Ref sig .tc := ⟨.hbm, 50, rfl⟩
abbrev main_cst_0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54_0 : Ref sig .tc := ⟨.hbm, 72, rfl⟩
abbrev main_v54_1 : Ref sig .tc := ⟨.hbm, 73, rfl⟩
abbrev main_v54_2 : Ref sig .tc := ⟨.hbm, 74, rfl⟩
abbrev main_v55 : Ref sig .tc := ⟨.hbm, 75, rfl⟩
abbrev main_v56 : Ref sig .tc := ⟨.hbm, 76, rfl⟩
abbrev main_cst_3 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_4 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg10_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem10_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_19 : BitVec 32 := 0#32
  let v40 : BitVec 1 := Scalar.cmpi .eq arg0 c0_i32_19
  let v41 : BitVec 32 := Scalar.extui v40
  let c0_i32_20 : BitVec 32 := 0#32
  let v42 : BitVec 1 := Scalar.cmpi .ne v41 c0_i32_20
  v42

def k0_cond2 (i : grid0.Coords) : BitVec 1 :=
  let arg0 : BitVec 32 := BitVec.ofNat 32 (i 0).val
  let c0_i32_21 : BitVec 32 := 0#32
  let v43 : BitVec 1 := Scalar.cmpi .sgt arg0 c0_i32_21
  let v44 : BitVec 32 := Scalar.extui v43
  let c0_i32_22 : BitVec 32 := 0#32
  let v45 : BitVec 1 := Scalar.cmpi .ne v44 c0_i32_22
  v45

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def k1_cond1 (i : grid1.Coords) : BitVec 1 :=
  let arg0 : BitVec 32 := BitVec.ofNat 32 (i 0).val
  let c0_i32_140 : BitVec 32 := 0#32
  let v389 : BitVec 1 := Scalar.cmpi .eq arg0 c0_i32_140
  let v390 : BitVec 32 := Scalar.extui v389
  let c0_i32_141 : BitVec 32 := 0#32
  let v391 : BitVec 1 := Scalar.cmpi .ne v390 c0_i32_141
  v391

def k1_cond2 (i : grid1.Coords) : BitVec 1 :=
  let arg0 : BitVec 32 := BitVec.ofNat 32 (i 0).val
  let c0_i32_142 : BitVec 32 := 0#32
  let v392 : BitVec 1 := Scalar.cmpi .sgt arg0 c0_i32_142
  let v393 : BitVec 32 := Scalar.extui v392
  let c0_i32_143 : BitVec 32 := 0#32
  let v394 : BitVec 1 := Scalar.cmpi .ne v393 c0_i32_143
  v394

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x16x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x16x8192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S16x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x32x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x16x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x16x16x8192 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S32x32x8192 : Shape := ⟨3, ![32, 32, 8192]⟩
abbrev S1x16x16 : Shape := ⟨3, ![1, 16, 16]⟩
abbrev S16x2x3x1 : Shape := ⟨4, ![16, 2, 3, 1]⟩
abbrev S16 : Shape := ⟨1, ![16]⟩
abbrev S16x2x1x1 : Shape := ⟨4, ![16, 2, 1, 1]⟩
abbrev S16x16x3x1 : Shape := ⟨4, ![16, 16, 3, 1]⟩
abbrev S32x16x2x8192 : Shape := ⟨4, ![32, 16, 2, 8192]⟩
abbrev S32x2x8192x16 : Shape := ⟨4, ![32, 2, 8192, 16]⟩
abbrev S_ : Shape := ⟨0, ![]⟩
abbrev S32x2x8194x16 : Shape := ⟨4, ![32, 2, 8194, 16]⟩
abbrev S16x2 : Shape := ⟨2, ![16, 2]⟩
abbrev S32x8192x16x16 : Shape := ⟨4, ![32, 8192, 16, 16]⟩
abbrev S32x16x8192x16 : Shape := ⟨4, ![32, 16, 8192, 16]⟩
abbrev S1x16x1x1 : Shape := ⟨4, ![1, 16, 1, 1]⟩
abbrev S32x1x16x8192x16 : Shape := ⟨5, ![32, 1, 16, 8192, 16]⟩
abbrev S32x16x8194x16 : Shape := ⟨4, ![32, 16, 8194, 16]⟩
abbrev S16x16x1x1 : Shape := ⟨4, ![16, 16, 1, 1]⟩
abbrev S16x16 : Shape := ⟨2, ![16, 16]⟩

abbrev nBuf : Space → Nat
  | .hbm => 178
  | .vmem => 0
  | .smem => 0
  | _ => 0

abbrev hbmTy0_0 (i : Nat) : BufTy := match i % 128 with
  | 0 => ⟨S32x32x8192, .f32⟩
  | 1 => ⟨S1x16x16, .f32⟩
  | 2 => ⟨S16x2x3x1, .f32⟩
  | 3 => ⟨S16, .f32⟩
  | 4 => ⟨S16, .f32⟩
  | 5 => ⟨S16, .f32⟩
  | 6 => ⟨S16x2x1x1, .f32⟩
  | 7 => ⟨S16, .f32⟩
  | 8 => ⟨S16x16x3x1, .f32⟩
  | 9 => ⟨S16, .f32⟩
  | 10 => ⟨S16, .f32⟩
  | 11 => ⟨S16, .f32⟩
  | 12 => ⟨S32x16x2x8192, .f32⟩
  | 13 => ⟨S32x2x8192x16, .f32⟩
  | 14 => ⟨S_, .i32⟩
  | 15 => ⟨S_, .f32⟩
  | 16 => ⟨S32x2x8194x16, .f32⟩
  | 17 => ⟨S16x2x1x1, .f32⟩
  | 18 => ⟨S16x2, .f32⟩
  | 19 => ⟨S32x2x8192x16, .f32⟩
  | 20 => ⟨S32x8192x16x16, .f32⟩
  | 21 => ⟨S32x16x8192x16, .f32⟩
  | 22 => ⟨S_, .f32⟩
  | 23 => ⟨S32x16x8192x16, .f32⟩
  | 24 => ⟨S32x16x8192x16, .f32⟩
  | 25 => ⟨S16x2x1x1, .f32⟩
  | 26 => ⟨S16x2, .f32⟩
  | 27 => ⟨S32x2x8192x16, .f32⟩
  | 28 => ⟨S32x8192x16x16, .f32⟩
  | 29 => ⟨S32x16x8192x16, .f32⟩
  | 30 => ⟨S32x16x8192x16, .f32⟩
  | 31 => ⟨S16x2x1x1, .f32⟩
  | 32 => ⟨S16x2, .f32⟩
  | 33 => ⟨S32x2x8192x16, .f32⟩
  | 34 => ⟨S32x8192x16x16, .f32⟩
  | 35 => ⟨S32x16x8192x16, .f32⟩
  | 36 => ⟨S32x16x8192x16, .f32⟩
  | 37 => ⟨S1x16x1x1, .f32⟩
  | 38 => ⟨S32x16x8192x16, .f32⟩
  | 39 => ⟨S32x16x8192x16, .f32⟩
  | 40 => ⟨S32x1x16x8192x16, .f32⟩
  | 41 => ⟨S32x16x8192x16, .f32⟩
  | 42 => ⟨S_, .f32⟩
  | 43 => ⟨S16, .f32⟩
  | 44 => ⟨S1x16x1x1, .f32⟩
  | 45 => ⟨S_, .f32⟩
  | 46 => ⟨S1x16x1x1, .f32⟩
  | 47 => ⟨S1x16x1x1, .f32⟩
  | 48 => ⟨S_, .i32⟩
  | 49 => ⟨S_, .f32⟩
  | 50 => ⟨S16, .f32⟩
  | 51 => ⟨S1x16x1x1, .f32⟩
  | 52 => ⟨S_, .f32⟩
  | 53 => ⟨S1x16x1x1, .f32⟩
  | 54 => ⟨S1x16x1x1, .f32⟩
  | 55 => ⟨S32x16x8192x16, .f32⟩
  | 56 => ⟨S32x16x8192x16, .f32⟩
  | 57 => ⟨S32x16x8192x16, .f32⟩
  | 58 => ⟨S_, .f32⟩
  | 59 => ⟨S_, .f32⟩
  | 60 => ⟨S_, .f32⟩
  | 61 => ⟨S_, .f32⟩
  | 62 => ⟨S16, .f32⟩
  | 63 => ⟨S1x16x1x1, .f32⟩
  | 64 => ⟨S1x16x1x1, .f32⟩
  | 65 => ⟨S1x16x1x1, .f32⟩
  | 66 => ⟨S_, .f32⟩
  | 67 => ⟨S_, .i1⟩
  | 68 => ⟨S_, .f32⟩
  | 69 => ⟨S_, .f32⟩
  | 70 => ⟨S1x16x1x1, .f32⟩
  | 71 => ⟨S1x16x1x1, .f32⟩
  | 72 => ⟨S1x16x1x1, .f32⟩
  | 73 => ⟨S32x16x8192x16, .f32⟩
  | 74 => ⟨S32x16x8192x16, .f32⟩
  | 75 => ⟨S32x16x8192x16, .f32⟩
  | 76 => ⟨S32x16x8192x16, .f32⟩
  | 77 => ⟨S_, .f32⟩
  | 78 => ⟨S1x16x1x1, .f32⟩
  | 79 => ⟨S1x16x1x1, .f32⟩
  | 80 => ⟨S1x16x1x1, .f32⟩
  | 81 => ⟨S32x16x8192x16, .f32⟩
  | 82 => ⟨S32x16x8192x16, .f32⟩
  | 83 => ⟨S1x16x1x1, .f32⟩
  | 84 => ⟨S32x16x8192x16, .f32⟩
  | 85 => ⟨S32x16x8192x16, .f32⟩
  | 86 => ⟨S_, .i32⟩
  | 87 => ⟨S_, .f32⟩
  | 88 => ⟨S32x2x8192x16, .f32⟩
  | 89 => ⟨S16x2, .f32⟩
  | 90 => ⟨S32x8192x16x16, .f32⟩
  | 91 => ⟨S32x16x8192x16, .f32⟩
  | 92 => ⟨S_, .f32⟩
  | 93 => ⟨S32x16x8192x16, .f32⟩
  | 94 => ⟨S32x16x8192x16, .f32⟩
  | 95 => ⟨S1x16x1x1, .f32⟩
  | 96 => ⟨S32x16x8192x16, .f32⟩
  | 97 => ⟨S32x16x8192x16, .f32⟩
  | 98 => ⟨S32x16x8192x16, .f32⟩
  | 99 => ⟨S_, .f32⟩
  | 100 => ⟨S32x16x8192x16, .f32⟩
  | 101 => ⟨S32x16x8192x16, .f32⟩
  | 102 => ⟨S_, .i32⟩
  | 103 => ⟨S_, .f32⟩
  | 104 => ⟨S32x16x8194x16, .f32⟩
  | 105 => ⟨S16x16x1x1, .f32⟩
  | 106 => ⟨S16x16, .f32⟩
  | 107 => ⟨S32x16x8192x16, .f32⟩
  | 108 => ⟨S32x8192x16x16, .f32⟩
  | 109 => ⟨S32x16x8192x16, .f32⟩
  | 110 => ⟨S_, .f32⟩
  | 111 => ⟨S32x16x8192x16, .f32⟩
  | 112 => ⟨S32x16x8192x16, .f32⟩
  | 113 => ⟨S16x16x1x1, .f32⟩
  | 114 => ⟨S16x16, .f32⟩
  | 115 => ⟨S32x16x8192x16, .f32⟩
  | 116 => ⟨S32x8192x16x16, .f32⟩
  | 117 => ⟨S32x16x8192x16, .f32⟩
  | 118 => ⟨S32x16x8192x16, .f32⟩
  | 119 => ⟨S16x16x1x1, .f32⟩
  | 120 => ⟨S16x16, .f32⟩
  | 121 => ⟨S32x16x8192x16, .f32⟩
  | 122 => ⟨S32x8192x16x16, .f32⟩
  | 123 => ⟨S32x16x8192x16, .f32⟩
  | 124 => ⟨S32x16x8192x16, .f32⟩
  | 125 => ⟨S1x16x1x1, .f32⟩
  | 126 => ⟨S32x16x8192x16, .f32⟩
  | 127 => ⟨S32x16x8192x16, .f32⟩
  | _ => ⟨S32x32x8192, .f32⟩

abbrev hbmTy0_1 (i : Nat) : BufTy := match i % 128 with
  | 0 => ⟨S32x1x16x8192x16, .f32⟩
  | 1 => ⟨S32x16x8192x16, .f32⟩
  | 2 => ⟨S_, .f32⟩
  | 3 => ⟨S16, .f32⟩
  | 4 => ⟨S1x16x1x1, .f32⟩
  | 5 => ⟨S_, .f32⟩
  | 6 => ⟨S1x16x1x1, .f32⟩
  | 7 => ⟨S1x16x1x1, .f32⟩
  | 8 => ⟨S_, .i32⟩
  | 9 => ⟨S_, .f32⟩
  | 10 => ⟨S16, .f32⟩
  | 11 => ⟨S1x16x1x1, .f32⟩
  | 12 => ⟨S_, .f32⟩
  | 13 => ⟨S1x16x1x1, .f32⟩
  | 14 => ⟨S1x16x1x1, .f32⟩
  | 15 => ⟨S32x16x8192x16, .f32⟩
  | 16 => ⟨S32x16x8192x16, .f32⟩
  | 17 => ⟨S32x16x8192x16, .f32⟩
  | 18 => ⟨S_, .f32⟩
  | 19 => ⟨S_, .f32⟩
  | 20 => ⟨S_, .f32⟩
  | 21 => ⟨S_, .f32⟩
  | 22 => ⟨S16, .f32⟩
  | 23 => ⟨S1x16x1x1, .f32⟩
  | 24 => ⟨S1x16x1x1, .f32⟩
  | 25 => ⟨S1x16x1x1, .f32⟩
  | 26 => ⟨S_, .f32⟩
  | 27 => ⟨S_, .i1⟩
  | 28 => ⟨S_, .f32⟩
  | 29 => ⟨S_, .f32⟩
  | 30 => ⟨S1x16x1x1, .f32⟩
  | 31 => ⟨S1x16x1x1, .f32⟩
  | 32 => ⟨S1x16x1x1, .f32⟩
  | 33 => ⟨S32x16x8192x16, .f32⟩
  | 34 => ⟨S32x16x8192x16, .f32⟩
  | 35 => ⟨S32x16x8192x16, .f32⟩
  | 36 => ⟨S32x16x8192x16, .f32⟩
  | 37 => ⟨S_, .f32⟩
  | 38 => ⟨S1x16x1x1, .f32⟩
  | 39 => ⟨S1x16x1x1, .f32⟩
  | 40 => ⟨S1x16x1x1, .f32⟩
  | 41 => ⟨S32x16x8192x16, .f32⟩
  | 42 => ⟨S32x16x8192x16, .f32⟩
  | 43 => ⟨S1x16x1x1, .f32⟩
  | 44 => ⟨S32x16x8192x16, .f32⟩
  | 45 => ⟨S32x16x8192x16, .f32⟩
  | 46 => ⟨S32x16x8192x16, .f32⟩
  | 47 => ⟨S_, .f32⟩
  | 48 => ⟨S32x16x8192x16, .f32⟩
  | 49 => ⟨S32x16x8192x16, .f32⟩
  | _ => ⟨S32x32x8192, .f32⟩

abbrev hbmTy (i : Nat) : BufTy := match i / 128 with
  | 0 => hbmTy0_0 i
  | 1 => hbmTy0_1 i
  | _ => ⟨S32x32x8192, .f32⟩

abbrev bufTy : (tb : Table) → Fin (tcTables nBuf tb) → BufTy
  | .hbm, ⟨i, _⟩ => hbmTy i
  | _, _ => ⟨S32x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_cst_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_cst_1 : Ref sig .tc := ⟨.hbm, 59, rfl⟩
abbrev main_call1_v8 : Ref sig .tc := ⟨.hbm, 60, rfl⟩
abbrev main_call1_cst_2 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_cst_3 : Ref sig .tc := ⟨.hbm, 66, rfl⟩
abbrev main_call1_v13 : Ref sig .tc := ⟨.hbm, 67, rfl⟩
abbrev main_call1_cst_4 : Ref sig .tc := ⟨.hbm, 68, rfl⟩
abbrev main_call1_call0_v0 : Ref sig .tc := ⟨.hbm, 69, rfl⟩
abbrev main_call1_call0_v1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_3 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_4 : Ref sig .tc := ⟨.hbm, 86, rfl⟩
abbrev main_call2_v0 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_5 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call3_cst : Ref sig .tc := ⟨.hbm, 99, rfl⟩
abbrev main_call3_v0 : Ref sig .tc := ⟨.hbm, 100, rfl⟩
abbrev main_v55 : Ref sig .tc := ⟨.hbm, 101, rfl⟩
abbrev main_c_6 : Ref sig .tc := ⟨.hbm, 102, rfl⟩
abbrev main_call4_v0 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_7 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_8 : Ref sig .tc := ⟨.hbm, 130, rfl⟩
abbrev main_v81 : Ref sig .tc := ⟨.hbm, 131, rfl⟩
abbrev main_v82 : Ref sig .tc := ⟨.hbm, 132, rfl⟩
abbrev main_cst_9 : Ref sig .tc := ⟨.hbm, 133, rfl⟩
abbrev main_v83 : Ref sig .tc := ⟨.hbm, 134, rfl⟩
abbrev main_v84 : Ref sig .tc := ⟨.hbm, 135, rfl⟩
abbrev main_c_10 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_cst_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_cst_1 : Ref sig .tc := ⟨.hbm, 147, rfl⟩
abbrev main_call5_v8 : Ref sig .tc := ⟨.hbm, 148, rfl⟩
abbrev main_call5_cst_2 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_v12 : Ref sig .tc := ⟨.hbm, 153, rfl⟩
abbrev main_call5_cst_3 : Ref sig .tc := ⟨.hbm, 154, rfl⟩
abbrev main_call5_v13 : Ref sig .tc := ⟨.hbm, 155, rfl⟩
abbrev main_call5_cst_4 : Ref sig .tc := ⟨.hbm, 156, rfl⟩
abbrev main_call5_call0_v0 : Ref sig .tc := ⟨.hbm, 157, rfl⟩
abbrev main_call5_call0_v1 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_11 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_call6_cst : Ref sig .tc := ⟨.hbm, 175, rfl⟩
abbrev main_call6_v0 : Ref sig .tc := ⟨.hbm, 176, rfl⟩
abbrev main_v100 : Ref sig .tc := ⟨.hbm, 177, rfl⟩

abbrev nD : Nat := 1
abbrev τ : Topo := Topo.v7x

variable {F : FTy → Type} [FloatOps F]
-- ==== Proof.KernelIdeal.Stage1.lean ====
/- The first pallas_call of the kernel as a pipeline region: what its body leaves in the three output buffers at each
   grid point (the convolution block, and the running sums of the block and of its square), and the proof that the
   body does so from any point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The rectangles the body loads and stores through. -/
abbrev rX : Rect S1x32x8192 := Rect.unit (s := S1x32x8192) ![0, 0, 0] S1x32x8192.size inb_S1x32x8192_S1x32x8192_0_0_0
/-- The bias column, whole. -/
abbrev rB : Rect S16x1 := Rect.unit (s := S16x1) ![0, 0] S16x1.size inb_S16x1_S16x1_0_0
/-- The weights of the first tap, -/
abbrev rW0 : Rect S3x16x32 := Rect.unit (s := S3x16x32) ![0, 0, 0] S1x16x32.size inb_S3x16x32_S1x16x32_0_0_0
/-- of the second tap, -/
abbrev rW1 : Rect S3x16x32 := Rect.unit (s := S3x16x32) ![1, 0, 0] S1x16x32.size inb_S3x16x32_S1x16x32_1_0_0
/-- and of the third. -/
abbrev rW2 : Rect S3x16x32 := Rect.unit (s := S3x16x32) ![2, 0, 0] S1x16x32.size inb_S3x16x32_S1x16x32_2_0_0
/-- The output block, whole. -/
abbrev rY : Rect S1x16x8192 := Rect.unit (s := S1x16x8192) ![0, 0, 0] S1x16x8192.size inb_S1x16x8192_S1x16x8192_0_0_0
/-- A block of sums, whole. -/
abbrev rS : Rect S16x128 := Rect.unit (s := S16x128) ![0, 0] S16x128.size inb_S16x128_S16x128_0_0

/-- The convolution block, from the input block `x`, the weights `w` and the bias column `b`. -/
def conv (x : Vec F S1x32x8192 .f32) (w : Vec F S3x16x32 .f32) (b : Vec F S16x1 .f32) : FVec F S16x8192 .f32 :=
  k0_pay4 (View.ld x rX) (View.ld b rB) (View.ld w rW0) (View.ld w rW1) (View.ld w rW2)
/-- The same with the leading unit axis the output block has. -/
def block (x : Vec F S1x32x8192 .f32) (w : Vec F S3x16x32 .f32) (b : Vec F S16x1 .f32) : FVec F S1x16x8192 .f32 :=
  k0_pay5 (View.ld x rX) (View.ld b rB) (View.ld w rW0) (View.ld w rW1) (View.ld w rW2)
/-- The block's row sums, in every lane. -/
def rowSum (x : Vec F S1x32x8192 .f32) (w : Vec F S3x16x32 .f32) (b : Vec F S16x1 .f32) : FVec F S16x128 .f32 :=
  k0_pay6 (View.ld x rX) (View.ld b rB) (View.ld w rW0) (View.ld w rW1) (View.ld w rW2)

/-- A store through a whole buffer leaves what it stored. -/
theorem read_store {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-! ## The two conditions of the body -/

/-- The body's test for the first point of the grid, as the program decides it, -/
abbrev isFirst (i : grid0.Coords) : Prop := k0_cond1 i = 1#1
/-- and its test for a later point. -/
abbrev isLater (i : grid0.Coords) : Prop := k0_cond2 i = 1#1
/-- The first test holds at point 0 alone, -/
theorem isFirst_iff : ∀ t : Fin cfg0.N, isFirst (grid0.coords t) ↔ t.val = 0 :=
  (by decide +kernel : ∀ t : Fin grid0.N, isFirst (grid0.coords t) ↔ t.val = 0)
/-- the second at every other point. -/
theorem isLater_iff : ∀ t : Fin cfg0.N, isLater (grid0.coords t) ↔ t.val ≠ 0 :=
  (by decide +kernel : ∀ t : Fin grid0.N, isLater (grid0.coords t) ↔ t.val ≠ 0)

/-! ## The body's two runs -/

set_option maxHeartbeats 1000000 in
/-- At the first point the body leaves the block, its row sums and the row sums of its square. -/
theorem run_first (c : Dev nD) (E : Set ℕ) (i : grid0.Coords) (arg1 : Memref sig .tc .vmem S1x32x8192 .f32) (harg1 : arg1.IsWhole) (arg2 : Memref sig .tc .vmem S3x16x32 .f32) (harg2 : arg2.IsWhole) (arg3 : Memref sig .tc .vmem S16x1 .f32) (harg3 : arg3.IsWhole) (arg4 : Memref sig .tc .vmem S1x16x8192 .f32) (harg4 : arg4.IsWhole) (arg5 : Memref sig .tc .vmem S16x128 .f32) (harg5 : arg5.IsWhole) (arg6 : Memref sig .tc .vmem S16x128 .f32) (harg6 : arg6.IsWhole)
    (h1 : isFirst i) (h2 : ¬isLater i) (x : Vec F S1x32x8192 .f32) (w : Vec F S3x16x32 .f32) (b : Vec F S16x1 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (block x w b) ∗ owns (c : Thread nD τ) arg5 fullShare (rowSum x w b)
            ∗ owns (c : Thread nD τ) arg6 fullShare (k0_pay1 (conv x w b))) -∗ K ⟨⟩))
      ⊢ wp frame (wpE (defs₀ (F := F)) Variants.none c none) E (cc0__stage1_body i arg1 harg1 arg2 harg2 arg3 harg3 arg4 harg4 arg5 harg5 arg6 harg6) K := by
  simp only [cc0__stage1_body_eq_skeleton]; unfold cc0__stage1_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (read_store _ _ (by decide) _ _).trans rfl
  isplitl [H4]
  · iexists _; isplitr
    swap; · iexact H4
    ipureintro
    exact (read_store _ _ (by decide) _ _).trans rfl
  iexists _; isplitr
  swap; · iexact H5
  ipureintro
  exact (read_store _ _ (by decide) _ _).trans rfl

set_option maxHeartbeats 1000000 in
/-- At a later point the body leaves the block, and adds its row sums and those of its square to the running ones. -/
theorem run_later (c : Dev nD) (E : Set ℕ) (i : grid0.Coords) (arg1 : Memref sig .tc .vmem S1x32x8192 .f32) (harg1 : arg1.IsWhole) (arg2 : Memref sig .tc .vmem S3x16x32 .f32) (harg2 : arg2.IsWhole) (arg3 : Memref sig .tc .vmem S16x1 .f32) (harg3 : arg3.IsWhole) (arg4 : Memref sig .tc .vmem S1x16x8192 .f32) (harg4 : arg4.IsWhole) (arg5 : Memref sig .tc .vmem S16x128 .f32) (harg5 : arg5.IsWhole) (arg6 : Memref sig .tc .vmem S16x128 .f32) (harg6 : arg6.IsWhole)
    (h1 : ¬isFirst i) (h2 : isLater i) (x : Vec F S1x32x8192 .f32) (w : Vec F S3x16x32 .f32) (b : Vec F S16x1 .f32)
    (s ss : Vec F S16x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare s ∗ owns (c : Thread nD τ) arg6 fullShare ss
        ∗ (iprop(owns (c : Thread nD τ) arg1 fullShare x ∗ owns (c : Thread nD τ) arg2 fullShare w ∗ owns (c : Thread nD τ) arg3 fullShare b
            ∗ owns (c : Thread nD τ) arg4 fullShare (block x w b) ∗ owns (c : Thread nD τ) arg5 fullShare (k0_pay2 (rowSum x w b) (View.ld s rS))
            ∗ owns (c : Thread nD τ) arg6 fullShare (k0_pay3 (conv x w b) (View.ld ss rS))) -∗ K ⟨⟩))
      ⊢ wp frame (wpE (defs₀ (F := F)) Variants.none c none) E (cc0__stage1_body i arg1 harg1 arg2 harg2 arg3 harg3 arg4 harg4 arg5 harg5 arg6 harg6) K := by
  simp only [cc0__stage1_body_eq_skeleton]; unfold cc0__stage1_body_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (read_store _ _ (by decide) _ _).trans rfl
  isplitl [H4]
  · iexists _; isplitr
    swap; · iexact H4
    ipureintro
    exact (read_store _ _ (by decide) _ _).trans rfl
  iexists _; isplitr
  swap; · iexact H5
  ipureintro
  exact (read_store _ _ (by decide) _ _).trans rfl

/-! ## The proof data at the entry contents `V` -/

section Region
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point before `t`. -/
abbrev prev (t : Fin cfg0.N) : Fin cfg0.N := ⟨t.val - 1, by omega⟩

/-- The running row sums after point `n`. -/
def sums (c : Dev nD) : (n : ℕ) → n < cfg0.N → Vec F S16x128 .f32
  | 0, h => rowSum (blk V c 0 ⟨0, h⟩) (blk V c 1 ⟨0, h⟩) (blk V c 2 ⟨0, h⟩)
  | n + 1, h => k0_pay2 (rowSum (blk V c 0 ⟨n + 1, h⟩) (blk V c 1 ⟨n + 1, h⟩) (blk V c 2 ⟨n + 1, h⟩))
      (View.ld (sums c n (Nat.lt_of_succ_lt h)) rS)
/-- The running row sums of the squares after point `n`. -/
def sqs (c : Dev nD) : (n : ℕ) → n < cfg0.N → Vec F S16x128 .f32
  | 0, h => k0_pay1 (conv (blk V c 0 ⟨0, h⟩) (blk V c 1 ⟨0, h⟩) (blk V c 2 ⟨0, h⟩))
  | n + 1, h => k0_pay3 (conv (blk V c 0 ⟨n + 1, h⟩) (blk V c 1 ⟨n + 1, h⟩) (blk V c 2 ⟨n + 1, h⟩))
      (View.ld (sqs c n (Nat.lt_of_succ_lt h)) rS)

/-- The running sums after the first point are that point's, -/
theorem sums_first (c : Dev nD) (t : Fin cfg0.N) (h : t.val = 0) :
    sums V c t.val t.isLt = rowSum (blk V c 0 t) (blk V c 1 t) (blk V c 2 t) := by
  obtain ⟨n, hn⟩ := t; subst h; rfl
/-- after a later point the point's are added. -/
theorem sums_later (c : Dev nD) (t : Fin cfg0.N) (h : t.val ≠ 0) :
    sums V c t.val t.isLt = k0_pay2 (rowSum (blk V c 0 t) (blk V c 1 t) (blk V c 2 t)) (View.ld (sums V c (prev t).val (prev t).isLt) rS) := by
  obtain ⟨n, hn⟩ := t
  cases n with
  | zero => exact absurd rfl h
  | succ n => rfl
/-- The running sums of the squares after the first point are that point's, -/
theorem sqs_first (c : Dev nD) (t : Fin cfg0.N) (h : t.val = 0) :
    sqs V c t.val t.isLt = k0_pay1 (conv (blk V c 0 t) (blk V c 1 t) (blk V c 2 t)) := by
  obtain ⟨n, hn⟩ := t; subst h; rfl
/-- after a later point the point's are added. -/
theorem sqs_later (c : Dev nD) (t : Fin cfg0.N) (h : t.val ≠ 0) :
    sqs V c t.val t.isLt = k0_pay3 (conv (blk V c 0 t) (blk V c 1 t) (blk V c 2 t)) (View.ld (sqs V c (prev t).val (prev t).isLt) rS) := by
  obtain ⟨n, hn⟩ := t
  cases n with
  | zero => exact absurd rfl h
  | succ n => rfl

/-- The region's proof data: the arrays as entered; after the body each input buffer at its block, the first output at
    the convolution block, the other two at the running sums. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => block (blk V c 0 t) (blk V c 1 t) (blk V c 2 t)
    | ⟨4, _⟩ => sums V c t.val t.isLt
    | ⟨5, _⟩ => sqs V c t.val t.isLt
  Φ _ := Pipeline.ΦA spec0 c
  q _ := fullShare
  owed _ := 0

/-- The arrays start at the contents the region is entered from. -/
theorem A_eq (c : Dev nD) (w : Fin cfg0.W) : (dat V c).A w = V c (Pipeline.arrRef spec0 w) := by
  dsimp only [dat]
/-- After the body, input 0's block is as fetched. -/
theorem after_0 (c : Dev nD) (t : Fin cfg0.N) : (dat V c).after 0 t = blk V c 0 t := by dsimp only [dat]
/-- After the body, input 1's block is as fetched. -/
theorem after_1 (c : Dev nD) (t : Fin cfg0.N) : (dat V c).after 1 t = blk V c 1 t := by dsimp only [dat]
/-- After the body, input 2's block is as fetched. -/
theorem after_2 (c : Dev nD) (t : Fin cfg0.N) : (dat V c).after 2 t = blk V c 2 t := by dsimp only [dat]
/-- After the body, the output block holds the point's values. -/
theorem after_3 (c : Dev nD) (t : Fin cfg0.N) : (dat V c).after 3 t = block (blk V c 0 t) (blk V c 1 t) (blk V c 2 t) := by dsimp only [dat]
/-- After the body, the second output holds the running sums, -/
theorem after_4 (c : Dev nD) (t : Fin cfg0.N) : (dat V c).after 4 t = sums V c t.val t.isLt := by dsimp only [dat]
/-- and the third the running sums of the squares. -/
theorem after_5 (c : Dev nD) (t : Fin cfg0.N) : (dat V c).after 5 t = sqs V c t.val t.isLt := by dsimp only [dat]

/-- An input's staging buffer holds its block at every point. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
/-- Before the body, input 1's block is the one of its point. -/
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
/-- Before the body, input 2's block is the one of its point. -/
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-- No window is ever idle: every point stores into every output. -/
theorem live : ∀ (w : Fin cfg0.W) (t : Fin cfg0.N), cfg0.idle w (grid0.coords t) = false := by decide +kernel

/-- A running sum's buffer holds something stored at every point but the first. -/
theorem notFresh : ∀ (w : Fin cfg0.W), w = 4 ∨ w = 5 → ∀ t : Fin cfg0.N, t.val ≠ 0 → cfg0.fresh w t.val = false := by
  have key : ∀ (w : Fin cfg0.W), w = 4 ∨ w = 5 → ∀ n, n < cfg0.N → n ≠ 0 → cfg0.fresh w n = false := by
    decide +kernel
  exact fun w hw t ht => key w hw t.val t.isLt ht

/-- A running sum's staging buffer holds, at a later point, what the point before left. -/
theorem before_4 (c : Dev nD) (t : Fin cfg0.N) (h : t.val ≠ 0) (d) :
    (dat V c).before 4 t d = sums V c (prev t).val (prev t).isLt := by
  rw [Dat.before_out_traj _ 4 rfl (fun _ _ => rfl) (fun t _ hi _ => absurd hi (by rw [live]; exact Bool.false_ne_true)) t.val t rfl d,
    if_neg (by rw [notFresh 4 (.inl rfl) t h]; exact Bool.false_ne_true)]
  dsimp only [dat]
/-- Before the body at a later point, the third output holds the running sums of the squares of the points before. -/
theorem before_5 (c : Dev nD) (t : Fin cfg0.N) (h : t.val ≠ 0) (d) :
    (dat V c).before 5 t d = sqs V c (prev t).val (prev t).isLt := by
  rw [Dat.before_out_traj _ 5 rfl (fun _ _ => rfl) (fun t _ hi _ => absurd hi (by rw [live]; exact Bool.false_ne_true)) t.val t rfl d,
    if_neg (by rw [notFresh 5 (.inr rfl) t h]; exact Bool.false_ne_true)]
  dsimp only [dat]

/-- What is owed of window `w` after a point is its staging buffer at the proof data's contents. -/
theorem leaves (c : Dev nD) (w : Fin cfg0.W) (t : Fin cfg0.N) :
    (dat V c).leavesExact w t = owns (c : Thread nD τ) ((cfg0.win w).stage (cfg0.slots t w)) fullShare ((dat V c).after w t) := by
  unfold Dat.leavesExact; rw [live w t]

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (stage0_0 (cfg0.slots t 0)) fullShare ((dat V c).before 0 t d))
    ∗ (∃ d, owns (c : Thread nD τ) (stage0_1 (cfg0.slots t 1)) fullShare ((dat V c).before 1 t d))
    ∗ (∃ d, owns (c : Thread nD τ) (stage0_2 (cfg0.slots t 2)) fullShare ((dat V c).before 2 t d))
    ∗ (∃ d, owns (c : Thread nD τ) (stage0_3 (cfg0.slots t 3)) fullShare ((dat V c).before 3 t d))
    ∗ (∃ d, owns (c : Thread nD τ) (stage0_4 (cfg0.slots t 4)) fullShare ((dat V c).before 4 t d))
    ∗ (∃ d, owns (c : Thread nD τ) (stage0_5 (cfg0.slots t 5)) fullShare ((dat V c).before 5 t d)))
/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 800000 in
/-- The body at any point takes the one to the other. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    leaves, leaves, leaves, leaves, leaves, leaves,
    after_0, after_1, after_2, after_3, after_4, after_5]
  by_cases h : t.val = 0
  · rw [sums_first V c t h, sqs_first V c t h]
    iintro ⟨HΦ, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ ((isFirst_iff t).mpr h)
      (fun e => (isLater_iff t).mp e h) (blk V c 0 t) (blk V c 1 t) (blk V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [sums_later V c t h, sqs_later V c t h]
    simp only [before_4 V c t h, before_5 V c t h]
    iintro ⟨HΦ, Ho, ⟨%d0, H0⟩, ⟨%d1, H1⟩, ⟨%d2, H2⟩, ⟨%d3, H3⟩, ⟨%d4, H4⟩, ⟨%d5, H5⟩⟩
    iapply (run_later c Set.univ (grid0.coords t) _ _ _ _ _ _ _ _ _ _ _ _ (fun e => h ((isFirst_iff t).mp e))
      ((isLater_iff t).mpr h) (blk V c 0 t) (blk V c 1 t) (blk V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body. -/
theorem row (t : Fin cfg0.N) : defs₀ (F := F) .tc cfg0.body (cfg0.bodyArgs t (cfg0.slots t)) = bodyAt0 t := by
  unfold defs₀; rw [Defs.onTc_tc]

/-- The body obligation of the region, at every point. -/
theorem obligation (c : Dev nD) : BodyObligation (dat (F := F) V c) (defs₀ (F := F)) Variants.none () Set.univ := fun t => by
  rw [bigSep_W0, bigSep_W0, row]
  exact triple_restated (sound_body V c t) rfl .rfl fun _ => .rfl

end Region

end Cert.KernelIdeal.Stage1

end
-- ==== Proof.KernelIdeal.Stage2.lean ====
/- The second pallas_call of the kernel as a pipeline region: what its body leaves in the three output buffers at each
   grid point (the convolution of the averaged first layer, and the running sums of that block and of its square), and
   the proof that the body does so from any point. -/
module

public import proofs.«01_k».proof.Proof.KernelIdeal.Stage1
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The input block, whole. -/
abbrev rX : Rect S1x32x8192 := Rect.unit (s := S1x32x8192) ![0, 0, 0] S1x32x8192.size inb_S1x32x8192_S1x32x8192_0_0_0
/-- A column of sixteen values, whole. -/
abbrev rC : Rect S16x1 := Rect.unit (s := S16x1) ![0, 0] S16x1.size inb_S16x1_S16x1_0_0
/-- A block of sixteen channels, whole. -/
abbrev rY : Rect S1x16x8192 := Rect.unit (s := S1x16x8192) ![0, 0, 0] S1x16x8192.size inb_S1x16x8192_S1x16x8192_0_0_0
/-- The residual's weights of the first channel, -/
abbrev rR0 : Rect S16x2 := Rect.unit (s := S16x2) ![0, 0] S16x1.size inb_S16x2_S16x1_0_0
/-- and of the second. -/
abbrev rR1 : Rect S16x2 := Rect.unit (s := S16x2) ![0, 1] S16x1.size inb_S16x2_S16x1_0_1
/-- The weights of the first tap, -/
abbrev rW0 : Rect S3x16x16 := Rect.unit (s := S3x16x16) ![0, 0, 0] S1x16x16.size inb_S3x16x16_S1x16x16_0_0_0
/-- of the second tap, -/
abbrev rW1 : Rect S3x16x16 := Rect.unit (s := S3x16x16) ![1, 0, 0] S1x16x16.size inb_S3x16x16_S1x16x16_1_0_0
/-- and of the third. -/
abbrev rW2 : Rect S3x16x16 := Rect.unit (s := S3x16x16) ![2, 0, 0] S1x16x16.size inb_S3x16x16_S1x16x16_2_0_0
/-- A block of sums, whole. -/
abbrev rS : Rect S16x128 := Rect.unit (s := S16x128) ![0, 0] S16x128.size inb_S16x128_S16x128_0_0

section Values
variable (x : Vec F S1x32x8192 .f32) (y : Vec F S1x16x8192 .f32) (sc sh : Vec F S16x1 .f32) (wr : Vec F S16x2 .f32) (br : Vec F S16x1 .f32)

/-- The input block without its unit axis, the first layer's affine image of the block `y`, and the loads of the residual
    weights' two columns and of the residual bias. -/
def inp : FVec F S32x8192 .f32 := k1_pay3 (View.ld x rX)
/-- The normalised first layer. -/
def aff : FVec F S16x8192 .f32 := k1_pay4 (View.ld sc rC) (View.ld y rY) (View.ld sh rC)
/-- The sum over the first positions of the rectified first layer: after position 0, -/
def acc0 : FVec F S16x8192 .f32 :=
  k1_pay5 (View.ld x rX) (View.ld sc rC) (View.ld y rY) (View.ld sh rC) (View.ld wr rR0) (View.ld wr rR1) (View.ld br rC)
/-- after position 2, -/
def acc2 : FVec F S16x8192 .f32 :=
  k1_pay8 (inp x) (aff y sc sh) (acc0 x y sc sh wr br) (k1_pay6 (View.ld wr rR0)) (k1_pay7 (View.ld x rX)) (View.ld wr rR1) (View.ld br rC)
    (View.ld wr rR0) (View.ld wr rR1) (View.ld br rC)
/-- after position 4, -/
def acc4 : FVec F S16x8192 .f32 :=
  k1_pay10 (inp x) (aff y sc sh) (acc2 x y sc sh wr br) (k1_pay9 (inp x) (View.ld wr rR0)) (View.ld wr rR1) (View.ld br rC)
    (View.ld wr rR0) (View.ld wr rR1) (View.ld br rC)
/-- after position 6, -/
def acc6 : FVec F S16x8192 .f32 :=
  k1_pay14 (inp x) (aff y sc sh) (acc4 x y sc sh wr br) (k1_pay11 (inp x) (View.ld wr rR0)) (k1_pay12 (View.ld wr rR1)) (k1_pay13 (inp x))
    (View.ld br rC) (View.ld wr rR0) (View.ld wr rR1) (View.ld br rC)
/-- after position 8, -/
def acc8 : FVec F S16x8192 .f32 :=
  k1_pay16 (inp x) (aff y sc sh) (acc6 x y sc sh wr br) (k1_pay15 (inp x) (View.ld wr rR0) (View.ld wr rR1)) (View.ld br rC)
    (View.ld wr rR0) (View.ld wr rR1) (View.ld br rC)
/-- after position 10, -/
def acc10 : FVec F S16x8192 .f32 :=
  k1_pay18 (inp x) (aff y sc sh) (acc8 x y sc sh wr br) (k1_pay17 (inp x) (View.ld wr rR0) (View.ld wr rR1) (View.ld br rC))
    (View.ld wr rR0) (View.ld wr rR1) (View.ld br rC)
/-- after position 13, -/
def acc13 : FVec F S16x8192 .f32 :=
  k1_pay20 (inp x) (aff y sc sh) (acc10 x y sc sh wr br) (k1_pay19 (inp x) (aff y sc sh) (View.ld wr rR0) (View.ld wr rR1) (View.ld br rC))
    (View.ld wr rR0) (View.ld wr rR1) (View.ld br rC) (View.ld wr rR0) (View.ld wr rR1) (View.ld br rC)
/-- and all sixteen, averaged, behind one column of padding. -/
def mean : FVec F S16x8193 .f32 :=
  k1_pay22 (inp x) (aff y sc sh) (acc13 x y sc sh wr br) (View.ld wr rR0) (View.ld wr rR1) (View.ld br rC)
    (View.ld wr rR0) (View.ld wr rR1) (View.ld br rC)

variable (w : Vec F S3x16x16 .f32) (b : Vec F S16x1 .f32)

/-- The convolution block, from the averaged layer, the weights `w` and the bias column `b`. -/
def conv : FVec F S16x8192 .f32 :=
  k1_pay23 (k1_pay21 (F := F)) (mean x y sc sh wr br) (View.ld b rC) (View.ld w rW0) (View.ld w rW1) (View.ld w rW2)
/-- The same with the leading unit axis the output block has. -/
def block : FVec F S1x16x8192 .f32 :=
  k1_pay24 (k1_pay21 (F := F)) (mean x y sc sh wr br) (View.ld b rC) (View.ld w rW0) (View.ld w rW1) (View.ld w rW2)
/-- The block's row sums, in every lane, -/
def rowSum : FVec F S16x128 .f32 :=
  k1_pay25 (k1_pay21 (F := F)) (mean x y sc sh wr br) (View.ld b rC) (View.ld w rW0) (View.ld w rW1) (View.ld w rW2)
/-- and those of its square. -/
def rowSq : FVec F S16x128 .f32 :=
  k1_pay26 (k1_pay21 (F := F)) (mean x y sc sh wr br) (View.ld b rC) (View.ld w rW0) (View.ld w rW1) (View.ld w rW2)

end Values

/-! ## The two conditions of the body -/

/-- The body's test for the first point of the grid, as the program decides it, -/
abbrev isFirst (i : grid1.Coords) : Prop := k1_cond1 i = 1#1
/-- and its test for a later point. -/
abbrev isLater (i : grid1.Coords) : Prop := k1_cond2 i = 1#1
/-- The first test holds at point 0 alone, -/
theorem isFirst_iff : ∀ t : Fin cfg1.N, isFirst (grid1.coords t) ↔ t.val = 0 :=
  (by decide +kernel : ∀ t : Fin grid1.N, isFirst (grid1.coords t) ↔ t.val = 0)
/-- the second at every other point. -/
theorem isLater_iff : ∀ t : Fin cfg1.N, isLater (grid1.coords t) ↔ t.val ≠ 0 :=
  (by decide +kernel : ∀ t : Fin grid1.N, isLater (grid1.coords t) ↔ t.val ≠ 0)

/-! ## The body's two runs -/

set_option maxHeartbeats 2000000 in
/-- At the first point the body leaves the block, its row sums and the row sums of its square. -/
theorem run_first (c : Dev nD) (E : Set ℕ) (i : grid1.Coords) (arg1 : Memref sig .tc .vmem S1x32x8192 .f32) (harg1 : arg1.IsWhole) (arg2 : Memref sig .tc .vmem S1x16x8192 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x2 .f32) (harg5 : arg5.IsWhole) (arg6 : Memref sig .tc .vmem S16x1 .f32) (harg6 : arg6.IsWhole) (arg7 : Memref sig .tc .vmem S3x16x16 .f32) (harg7 : arg7.IsWhole) (arg8 : Memref sig .tc .vmem S16x1 .f32) (harg8 : arg8.IsWhole) (arg9 : Memref sig .tc .vmem S1x16x8192 .f32) (harg9 : arg9.IsWhole) (arg10 : Memref sig .tc .vmem S16x128 .f32) (harg10 : arg10.IsWhole) (arg11 : Memref sig .tc .vmem S16x128 .f32) (harg11 : arg11.IsWhole)
    (h1 : isFirst i) (h2 : ¬isLater i) (x : Vec F S1x32x8192 .f32) (y : Vec F S1x16x8192 .f32) (sc sh : Vec F S16x1 .f32) (wr : Vec F S16x2 .f32) (br : Vec F S16x1 .f32)
    (w : Vec F S3x16x16 .f32) (b : Vec F S16x1 .f32) (K : PUnit → sProp 𝕄) :
    iprop(owns (c : Thread nD τ) arg1 fullShare x ∗ owns (c : Thread nD τ) arg2 fullShare y ∗ owns (c : Thread nD τ) arg3 fullShare sc ∗ owns (c : Thread nD τ) arg4 fullShare sh ∗ owns (c : Thread nD τ) arg5 fullShare wr ∗ owns (c : Thread nD τ) arg6 fullShare br ∗ owns (c : Thread nD τ) arg7 fullShare w ∗ owns (c : Thread nD τ) arg8 fullShare b
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare y ∗ owns (c : Thread nD τ) arg3 fullShare sc ∗ owns (c : Thread nD τ) arg4 fullShare sh ∗ owns (c : Thread nD τ) arg5 fullShare wr ∗ owns (c : Thread nD τ) arg6 fullShare br ∗ owns (c : Thread nD τ) arg7 fullShare w ∗ owns (c : Thread nD τ) arg8 fullShare b
            ∗ owns (c : Thread nD τ) arg9 fullShare (block x y sc sh wr br w b) ∗ owns (c : Thread nD τ) arg10 fullShare (rowSum x y sc sh wr br w b) ∗ owns (c : Thread nD τ) arg11 fullShare (rowSq x y sc sh wr br w b)) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10 arg11 harg11) K := by
  simp only [cc1__stage2_body_eq_skeleton]; unfold cc1__stage2_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (Stage1.read_store _ _ (by decide) _ _).trans rfl
  isplitl [H9]
  · iexists _; isplitr
    swap; · iexact H9
    ipureintro
    exact (Stage1.read_store _ _ (by decide) _ _).trans rfl
  iexists _; isplitr
  swap; · iexact H10
  ipureintro
  exact (Stage1.read_store _ _ (by decide) _ _).trans rfl

set_option maxHeartbeats 2000000 in
/-- At a later point the body leaves the block, and adds its row sums and those of its square to the running ones. -/
theorem run_later (c : Dev nD) (E : Set ℕ) (i : grid1.Coords) (arg1 : Memref sig .tc .vmem S1x32x8192 .f32) (harg1 : arg1.IsWhole) (arg2 : Memref sig .tc .vmem S1x16x8192 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x2 .f32) (harg5 : arg5.IsWhole) (arg6 : Memref sig .tc .vmem S16x1 .f32) (harg6 : arg6.IsWhole) (arg7 : Memref sig .tc .vmem S3x16x16 .f32) (harg7 : arg7.IsWhole) (arg8 : Memref sig .tc .vmem S16x1 .f32) (harg8 : arg8.IsWhole) (arg9 : Memref sig .tc .vmem S1x16x8192 .f32) (harg9 : arg9.IsWhole) (arg10 : Memref sig .tc .vmem S16x128 .f32) (harg10 : arg10.IsWhole) (arg11 : Memref sig .tc .vmem S16x128 .f32) (harg11 : arg11.IsWhole)
    (h1 : ¬isFirst i) (h2 : isLater i) (x : Vec F S1x32x8192 .f32) (y : Vec F S1x16x8192 .f32) (sc sh : Vec F S16x1 .f32) (wr : Vec F S16x2 .f32) (br : Vec F S16x1 .f32)
    (w : Vec F S3x16x16 .f32) (b : Vec F S16x1 .f32) (s ss : Vec F S16x128 .f32) (K : PUnit → sProp 𝕄) :
    iprop(owns (c : Thread nD τ) arg1 fullShare x ∗ owns (c : Thread nD τ) arg2 fullShare y ∗ owns (c : Thread nD τ) arg3 fullShare sc ∗ owns (c : Thread nD τ) arg4 fullShare sh ∗ owns (c : Thread nD τ) arg5 fullShare wr ∗ owns (c : Thread nD τ) arg6 fullShare br ∗ owns (c : Thread nD τ) arg7 fullShare w ∗ owns (c : Thread nD τ) arg8 fullShare b
        ∗ (∃ d, owns (c : Thread nD τ) arg9 fullShare d) ∗ owns (c : Thread nD τ) arg10 fullShare s ∗ owns (c : Thread nD τ) arg11 fullShare ss
        ∗ (iprop(owns (c : Thread nD τ) arg1 fullShare x ∗ owns (c : Thread nD τ) arg2 fullShare y ∗ owns (c : Thread nD τ) arg3 fullShare sc ∗ owns (c : Thread nD τ) arg4 fullShare sh ∗ owns (c : Thread nD τ) arg5 fullShare wr ∗ owns (c : Thread nD τ) arg6 fullShare br ∗ owns (c : Thread nD τ) arg7 fullShare w ∗ owns (c : Thread nD τ) arg8 fullShare b
            ∗ owns (c : Thread nD τ) arg9 fullShare (block x y sc sh wr br w b) ∗ owns (c : Thread nD τ) arg10 fullShare (k1_pay1 (rowSum x y sc sh wr br w b) (View.ld s rS)) ∗ owns (c : Thread nD τ) arg11 fullShare (k1_pay2 (rowSq x y sc sh wr br w b) (View.ld ss rS))) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10 arg11 harg11) K := by
  simp only [cc1__stage2_body_eq_skeleton]; unfold cc1__stage2_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf0 hf1 hf2 hf3 hf4 hf5 hf6 hf7 hf9 hf10
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (Stage1.read_store _ _ (by decide) _ _).trans rfl
  isplitl [H9]
  · iexists _; isplitr
    swap; · iexact H9
    ipureintro
    exact (Stage1.read_store _ _ (by decide) _ _).trans rfl
  iexists _; isplitr
  swap; · iexact H10
  ipureintro
  exact (Stage1.read_store _ _ (by decide) _ _).trans rfl

/-! ## The proof data at the entry contents `V` -/

section Region
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before `t`. -/
abbrev prev (t : Fin cfg1.N) : Fin cfg1.N := ⟨t.val - 1, by omega⟩

/-- The running row sums after point `n`. -/
def sums (c : Dev nD) : (n : ℕ) → n < cfg1.N → Vec F S16x128 .f32
  | 0, h => rowSum (blk V c 0 ⟨0, h⟩) (blk V c 1 ⟨0, h⟩) (blk V c 2 ⟨0, h⟩) (blk V c 3 ⟨0, h⟩) (blk V c 4 ⟨0, h⟩) (blk V c 5 ⟨0, h⟩) (blk V c 6 ⟨0, h⟩) (blk V c 7 ⟨0, h⟩)
  | n + 1, h => k1_pay1 (rowSum (blk V c 0 ⟨n + 1, h⟩) (blk V c 1 ⟨n + 1, h⟩) (blk V c 2 ⟨n + 1, h⟩) (blk V c 3 ⟨n + 1, h⟩) (blk V c 4 ⟨n + 1, h⟩) (blk V c 5 ⟨n + 1, h⟩) (blk V c 6 ⟨n + 1, h⟩) (blk V c 7 ⟨n + 1, h⟩))
      (View.ld (sums c n (Nat.lt_of_succ_lt h)) rS)
/-- The running row sums of the squares after point `n`. -/
def sqs (c : Dev nD) : (n : ℕ) → n < cfg1.N → Vec F S16x128 .f32
  | 0, h => rowSq (blk V c 0 ⟨0, h⟩) (blk V c 1 ⟨0, h⟩) (blk V c 2 ⟨0, h⟩) (blk V c 3 ⟨0, h⟩) (blk V c 4 ⟨0, h⟩) (blk V c 5 ⟨0, h⟩) (blk V c 6 ⟨0, h⟩) (blk V c 7 ⟨0, h⟩)
  | n + 1, h => k1_pay2 (rowSq (blk V c 0 ⟨n + 1, h⟩) (blk V c 1 ⟨n + 1, h⟩) (blk V c 2 ⟨n + 1, h⟩) (blk V c 3 ⟨n + 1, h⟩) (blk V c 4 ⟨n + 1, h⟩) (blk V c 5 ⟨n + 1, h⟩) (blk V c 6 ⟨n + 1, h⟩) (blk V c 7 ⟨n + 1, h⟩))
      (View.ld (sqs c n (Nat.lt_of_succ_lt h)) rS)

/-- The running sums after the first point are that point's, -/
theorem sums_first (c : Dev nD) (t : Fin cfg1.N) (h : t.val = 0) :
    sums V c t.val t.isLt = rowSum (blk V c 0 t) (blk V c 1 t) (blk V c 2 t) (blk V c 3 t) (blk V c 4 t) (blk V c 5 t) (blk V c 6 t) (blk V c 7 t) := by
  obtain ⟨n, hn⟩ := t; subst h; rfl
/-- after a later point the point's are added. -/
theorem sums_later (c : Dev nD) (t : Fin cfg1.N) (h : t.val ≠ 0) :
    sums V c t.val t.isLt = k1_pay1 (rowSum (blk V c 0 t) (blk V c 1 t) (blk V c 2 t) (blk V c 3 t) (blk V c 4 t) (blk V c 5 t) (blk V c 6 t) (blk V c 7 t)) (View.ld (sums V c (prev t).val (prev t).isLt) rS) := by
  obtain ⟨n, hn⟩ := t
  cases n with
  | zero => exact absurd rfl h
  | succ n => rfl
/-- The running sums of the squares after the first point are that point's, -/
theorem sqs_first (c : Dev nD) (t : Fin cfg1.N) (h : t.val = 0) :
    sqs V c t.val t.isLt = rowSq (blk V c 0 t) (blk V c 1 t) (blk V c 2 t) (blk V c 3 t) (blk V c 4 t) (blk V c 5 t) (blk V c 6 t) (blk V c 7 t) := by
  obtain ⟨n, hn⟩ := t; subst h; rfl
/-- after a later point the point's are added. -/
theorem sqs_later (c : Dev nD) (t : Fin cfg1.N) (h : t.val ≠ 0) :
    sqs V c t.val t.isLt = k1_pay2 (rowSq (blk V c 0 t) (blk V c 1 t) (blk V c 2 t) (blk V c 3 t) (blk V c 4 t) (blk V c 5 t) (blk V c 6 t) (blk V c 7 t)) (View.ld (sqs V c (prev t).val (prev t).isLt) rS) := by
  obtain ⟨n, hn⟩ := t
  cases n with
  | zero => exact absurd rfl h
  | succ n => rfl

/-- The region's proof data: the arrays as entered; after the body each input buffer at its block, the first output at
    the convolution block, the other two at the running sums. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => block (blk V c 0 t) (blk V c 1 t) (blk V c 2 t) (blk V c 3 t) (blk V c 4 t) (blk V c 5 t) (blk V c 6 t) (blk V c 7 t)
    | ⟨9, _⟩ => sums V c t.val t.isLt
    | ⟨10, _⟩ => sqs V c t.val t.isLt
  Φ _ := Pipeline.ΦA spec1 c
  q _ := fullShare
  owed _ := 0

/-- The arrays start at the contents the region is entered from. -/
theorem A_eq (c : Dev nD) (w : Fin cfg1.W) : (dat V c).A w = V c (Pipeline.arrRef spec1 w) := by
  dsimp only [dat]
/-- After the body, input 0's block is as fetched. -/
theorem after_0 (c : Dev nD) (t : Fin cfg1.N) : (dat V c).after 0 t = blk V c 0 t := by dsimp only [dat]
/-- After the body, input 1's block is as fetched. -/
theorem after_1 (c : Dev nD) (t : Fin cfg1.N) : (dat V c).after 1 t = blk V c 1 t := by dsimp only [dat]
/-- After the body, input 2's block is as fetched. -/
theorem after_2 (c : Dev nD) (t : Fin cfg1.N) : (dat V c).after 2 t = blk V c 2 t := by dsimp only [dat]
/-- After the body, input 3's block is as fetched. -/
theorem after_3 (c : Dev nD) (t : Fin cfg1.N) : (dat V c).after 3 t = blk V c 3 t := by dsimp only [dat]
/-- After the body, input 4's block is as fetched. -/
theorem after_4 (c : Dev nD) (t : Fin cfg1.N) : (dat V c).after 4 t = blk V c 4 t := by dsimp only [dat]
/-- After the body, input 5's block is as fetched. -/
theorem after_5 (c : Dev nD) (t : Fin cfg1.N) : (dat V c).after 5 t = blk V c 5 t := by dsimp only [dat]
/-- After the body, input 6's block is as fetched. -/
theorem after_6 (c : Dev nD) (t : Fin cfg1.N) : (dat V c).after 6 t = blk V c 6 t := by dsimp only [dat]
/-- After the body, input 7's block is as fetched. -/
theorem after_7 (c : Dev nD) (t : Fin cfg1.N) : (dat V c).after 7 t = blk V c 7 t := by dsimp only [dat]
/-- After the body, the output block holds the point's values. -/
theorem after_8 (c : Dev nD) (t : Fin cfg1.N) : (dat V c).after 8 t = block (blk V c 0 t) (blk V c 1 t) (blk V c 2 t) (blk V c 3 t) (blk V c 4 t) (blk V c 5 t) (blk V c 6 t) (blk V c 7 t) := by dsimp only [dat]
/-- After the body, the second output holds the running sums, -/
theorem after_9 (c : Dev nD) (t : Fin cfg1.N) : (dat V c).after 9 t = sums V c t.val t.isLt := by dsimp only [dat]
/-- and the third the running sums of the squares. -/
theorem after_10 (c : Dev nD) (t : Fin cfg1.N) : (dat V c).after 10 t = sqs V c t.val t.isLt := by dsimp only [dat]

/-- An input's staging buffer holds its block at every point. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
/-- Before the body, input 1's block is the one of its point. -/
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
/-- Before the body, input 2's block is the one of its point. -/
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
/-- Before the body, input 3's block is the one of its point. -/
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
/-- Before the body, input 4's block is the one of its point. -/
theorem before_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
/-- Before the body, input 5's block is the one of its point. -/
theorem before_5 (c : Dev nD) (t : Fin cfg1.N) (d) : (dat V c).before 5 t d = blk V c 5 t :=
  ((dat V c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
/-- Before the body, input 6's block is the one of its point. -/
theorem before_6 (c : Dev nD) (t : Fin cfg1.N) (d) : (dat V c).before 6 t d = blk V c 6 t :=
  ((dat V c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)
/-- Before the body, input 7's block is the one of its point. -/
theorem before_7 (c : Dev nD) (t : Fin cfg1.N) (d) : (dat V c).before 7 t d = blk V c 7 t :=
  ((dat V c).before_in_eq_fetched 7 rfl (fun _ => rfl) (fun _ _ _ => rfl)
    (fun t => by rw [after_7]; unfold Dat.blockOf blk; rw [A_eq]; try rfl) t d).trans
    (by unfold Dat.fetched Dat.blockOf blk; rw [A_eq]; try rfl)

/-- No window is ever idle: every point stores into every output. -/
theorem live : ∀ (w : Fin cfg1.W) (t : Fin cfg1.N), cfg1.idle w (grid1.coords t) = false := by decide +kernel

/-- A running sum's buffer holds something stored at every point but the first. -/
theorem notFresh : ∀ (w : Fin cfg1.W), w = 9 ∨ w = 10 → ∀ t : Fin cfg1.N, t.val ≠ 0 → cfg1.fresh w t.val = false := by
  have key : ∀ (w : Fin cfg1.W), w = 9 ∨ w = 10 → ∀ n, n < cfg1.N → n ≠ 0 → cfg1.fresh w n = false := by
    decide +kernel
  exact fun w hw t ht => key w hw t.val t.isLt ht

/-- A running sum's staging buffer holds, at a later point, what the point before left. -/
theorem before_9 (c : Dev nD) (t : Fin cfg1.N) (h : t.val ≠ 0) (d) :
    (dat V c).before 9 t d = sums V c (prev t).val (prev t).isLt := by
  rw [Dat.before_out_traj _ 9 rfl (fun _ _ => rfl) (fun t _ hi _ => absurd hi (by rw [live]; exact Bool.false_ne_true)) t.val t rfl d,
    if_neg (by rw [notFresh 9 (.inl rfl) t h]; exact Bool.false_ne_true)]
  dsimp only [dat]
/-- Before the body at a later point, the third output holds the running sums of the squares of the points before. -/
theorem before_10 (c : Dev nD) (t : Fin cfg1.N) (h : t.val ≠ 0) (d) :
    (dat V c).before 10 t d = sqs V c (prev t).val (prev t).isLt := by
  rw [Dat.before_out_traj _ 10 rfl (fun _ _ => rfl) (fun t _ hi _ => absurd hi (by rw [live]; exact Bool.false_ne_true)) t.val t rfl d,
    if_neg (by rw [notFresh 10 (.inr rfl) t h]; exact Bool.false_ne_true)]
  dsimp only [dat]

/-- What is owed of window `w` after a point is its staging buffer at the proof data's contents. -/
theorem leaves (c : Dev nD) (w : Fin cfg1.W) (t : Fin cfg1.N) :
    (dat V c).leavesExact w t = owns (c : Thread nD τ) ((cfg1.win w).stage (cfg1.slots t w)) fullShare ((dat V c).after w t) := by
  unfold Dat.leavesExact; rw [live w t]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (stage1_0 (cfg1.slots t 0)) fullShare ((dat V c).before 0 t d))
    ∗ (∃ d, owns (c : Thread nD τ) (stage1_1 (cfg1.slots t 1)) fullShare ((dat V c).before 1 t d))
    ∗ (∃ d, owns (c : Thread nD τ) (stage1_2 (cfg1.slots t 2)) fullShare ((dat V c).before 2 t d))
    ∗ (∃ d, owns (c : Thread nD τ) (stage1_3 (cfg1.slots t 3)) fullShare ((dat V c).before 3 t d))
    ∗ (∃ d, owns (c : Thread nD τ) (stage1_4 (cfg1.slots t 4)) fullShare ((dat V c).before 4 t d))
    ∗ (∃ d, owns (c : Thread nD τ) (stage1_5 (cfg1.slots t 5)) fullShare ((dat V c).before 5 t d))
    ∗ (∃ d, owns (c : Thread nD τ) (stage1_6 (cfg1.slots t 6)) fullShare ((dat V c).before 6 t d))
    ∗ (∃ d, owns (c : Thread nD τ) (stage1_7 (cfg1.slots t 7)) fullShare ((dat V c).before 7 t d))
    ∗ (∃ d, owns (c : Thread nD τ) (stage1_8 (cfg1.slots t 8)) fullShare ((dat V c).before 8 t d))
    ∗ (∃ d, owns (c : Thread nD τ) (stage1_9 (cfg1.slots t 9)) fullShare ((dat V c).before 9 t d))
    ∗ (∃ d, owns (c : Thread nD τ) (stage1_10 (cfg1.slots t 10)) fullShare ((dat V c).before 10 t d)))
/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t)

set_option maxHeartbeats 800000 in
/-- The body at any point takes the one to the other. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl]
  simp only [leaves]
  rw [after_0, after_1, after_2, after_3, after_4, after_5, after_6, after_7, after_8, after_9, after_10]
  by_cases h : t.val = 0
  · rw [sums_first V c t h, sqs_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid1.coords t) _ _ _ _ _ _ _ _ _ _ _ _ _ _ _ _ _ _ _ _ _ _ ((isFirst_iff t).mpr h)
      (fun e => (isLater_iff t).mp e h) (blk V c 0 t) (blk V c 1 t) (blk V c 2 t) (blk V c 3 t) (blk V c 4 t) (blk V c 5 t) (blk V c 6 t) (blk V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [sums_later V c t h, sqs_later V c t h]
    simp only [before_9 V c t h, before_10 V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_later c Set.univ (grid1.coords t) _ _ _ _ _ _ _ _ _ _ _ _ _ _ _ _ _ _ _ _ _ _ (fun e => h ((isFirst_iff t).mp e))
      ((isLater_iff t).mpr h) (blk V c 0 t) (blk V c 1 t) (blk V c 2 t) (blk V c 3 t) (blk V c 4 t) (blk V c 5 t) (blk V c 6 t) (blk V c 7 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t` is the body. -/
theorem row (t : Fin cfg1.N) : defs₀ (F := F) .tc cfg1.body (cfg1.bodyArgs t (cfg1.slots t)) = bodyAt1 t := by
  unfold defs₀; rw [Defs.onTc_tc]

/-- The body obligation of the region, at every point. -/
theorem obligation (c : Dev nD) : BodyObligation (dat (F := F) V c) (defs₀ (F := F)) Variants.none () Set.univ := fun t => by
  rw [bigSep_W1, bigSep_W1, row]
  exact triple_restated (sound_body V c t) rfl .rfl fun _ => .rfl

end Region

end Cert.KernelIdeal.Stage2

end
-- ==== Proof.KernelIdeal.Stage3.lean ====
/- The third pallas_call of the kernel as a pipeline region: what its body leaves in the output buffer at each grid point
   (sixteen slabs, one for each position), and the proof that the body does so from any point. -/
module

public import proofs.«01_k».proof.Proof.KernelIdeal.Stage1
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Stage3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The input block, whole. -/
abbrev rX : Rect S1x32x8192 := Rect.unit (s := S1x32x8192) ![0, 0, 0] S1x32x8192.size inb_S1x32x8192_S1x32x8192_0_0_0
/-- A column of sixteen values, whole. -/
abbrev rC : Rect S16x1 := Rect.unit (s := S16x1) ![0, 0] S16x1.size inb_S16x1_S16x1_0_0
/-- A block of sixteen channels, whole. -/
abbrev rY : Rect S1x16x8192 := Rect.unit (s := S1x16x8192) ![0, 0, 0] S1x16x8192.size inb_S1x16x8192_S1x16x8192_0_0_0
/-- The residual's weights of the first channel, -/
abbrev rR0 : Rect S16x2 := Rect.unit (s := S16x2) ![0, 0] S16x1.size inb_S16x2_S16x1_0_0
/-- and of the second. -/
abbrev rR1 : Rect S16x2 := Rect.unit (s := S16x2) ![0, 1] S16x1.size inb_S16x2_S16x1_0_1
/-- The output's part at position 0. -/
abbrev slab0 : Rect S1x16x16x8192 := Rect.unit (s := S1x16x16x8192) ![0, 0, 0, 0] S1x16x1x8192.size inb_S1x16x16x8192_S1x16x1x8192_0_0_0_0
/-- The output's part at position 1. -/
abbrev slab1 : Rect S1x16x16x8192 := Rect.unit (s := S1x16x16x8192) ![0, 0, 1, 0] S1x16x1x8192.size inb_S1x16x16x8192_S1x16x1x8192_0_0_1_0
/-- The output's part at position 2. -/
abbrev slab2 : Rect S1x16x16x8192 := Rect.unit (s := S1x16x16x8192) ![0, 0, 2, 0] S1x16x1x8192.size inb_S1x16x16x8192_S1x16x1x8192_0_0_2_0
/-- The output's part at position 3. -/
abbrev slab3 : Rect S1x16x16x8192 := Rect.unit (s := S1x16x16x8192) ![0, 0, 3, 0] S1x16x1x8192.size inb_S1x16x16x8192_S1x16x1x8192_0_0_3_0
/-- The output's part at position 4. -/
abbrev slab4 : Rect S1x16x16x8192 := Rect.unit (s := S1x16x16x8192) ![0, 0, 4, 0] S1x16x1x8192.size inb_S1x16x16x8192_S1x16x1x8192_0_0_4_0
/-- The output's part at position 5. -/
abbrev slab5 : Rect S1x16x16x8192 := Rect.unit (s := S1x16x16x8192) ![0, 0, 5, 0] S1x16x1x8192.size inb_S1x16x16x8192_S1x16x1x8192_0_0_5_0
/-- The output's part at position 6. -/
abbrev slab6 : Rect S1x16x16x8192 := Rect.unit (s := S1x16x16x8192) ![0, 0, 6, 0] S1x16x1x8192.size inb_S1x16x16x8192_S1x16x1x8192_0_0_6_0
/-- The output's part at position 7. -/
abbrev slab7 : Rect S1x16x16x8192 := Rect.unit (s := S1x16x16x8192) ![0, 0, 7, 0] S1x16x1x8192.size inb_S1x16x16x8192_S1x16x1x8192_0_0_7_0
/-- The output's part at position 8. -/
abbrev slab8 : Rect S1x16x16x8192 := Rect.unit (s := S1x16x16x8192) ![0, 0, 8, 0] S1x16x1x8192.size inb_S1x16x16x8192_S1x16x1x8192_0_0_8_0
/-- The output's part at position 9. -/
abbrev slab9 : Rect S1x16x16x8192 := Rect.unit (s := S1x16x16x8192) ![0, 0, 9, 0] S1x16x1x8192.size inb_S1x16x16x8192_S1x16x1x8192_0_0_9_0
/-- The output's part at position 10. -/
abbrev slab10 : Rect S1x16x16x8192 := Rect.unit (s := S1x16x16x8192) ![0, 0, 10, 0] S1x16x1x8192.size inb_S1x16x16x8192_S1x16x1x8192_0_0_10_0
/-- The output's part at position 11. -/
abbrev slab11 : Rect S1x16x16x8192 := Rect.unit (s := S1x16x16x8192) ![0, 0, 11, 0] S1x16x1x8192.size inb_S1x16x16x8192_S1x16x1x8192_0_0_11_0
/-- The output's part at position 12. -/
abbrev slab12 : Rect S1x16x16x8192 := Rect.unit (s := S1x16x16x8192) ![0, 0, 12, 0] S1x16x1x8192.size inb_S1x16x16x8192_S1x16x1x8192_0_0_12_0
/-- The output's part at position 13. -/
abbrev slab13 : Rect S1x16x16x8192 := Rect.unit (s := S1x16x16x8192) ![0, 0, 13, 0] S1x16x1x8192.size inb_S1x16x16x8192_S1x16x1x8192_0_0_13_0
/-- The output's part at position 14. -/
abbrev slab14 : Rect S1x16x16x8192 := Rect.unit (s := S1x16x16x8192) ![0, 0, 14, 0] S1x16x1x8192.size inb_S1x16x16x8192_S1x16x1x8192_0_0_14_0
/-- The output's part at position 15. -/
abbrev slab15 : Rect S1x16x16x8192 := Rect.unit (s := S1x16x16x8192) ![0, 0, 15, 0] S1x16x1x8192.size inb_S1x16x16x8192_S1x16x1x8192_0_0_15_0

section Values
variable (x : Vec F S1x32x8192 .f32) (y z : Vec F S1x16x8192 .f32) (sc sh tc th : Vec F S16x1 .f32) (wr : Vec F S16x2 .f32) (br : Vec F S16x1 .f32)

/-- The input block without its unit axis, and the affine images of the two layers' blocks. -/
def inp : FVec F S32x8192 .f32 := k2_pay2 (View.ld x rX)
/-- The normalised first layer, -/
def aff : FVec F S16x8192 .f32 := k2_pay3 (View.ld sc rC) (View.ld y rY) (View.ld sh rC)
/-- and the normalised second layer. -/
def aff2 : FVec F S16x8192 .f32 := k2_pay4 (View.ld tc rC) (View.ld z rY) (View.ld th rC)

/-- The slabs stored, one for each position, last first. -/
def pieces : List ((r : Rect S1x16x16x8192) × Vec F r.shape .f32) :=
  [⟨slab15, k2_pay1 (k2_pay33 (inp x) (aff y sc sh) (aff2 z tc th) (View.ld wr rR0) (View.ld wr rR1) (View.ld br rC))⟩,
    ⟨slab14, k2_pay32 (aff y sc sh) (aff2 z tc th) (k2_pay29 (inp x) (View.ld wr rR0)) (k2_pay30 (inp x)) (k2_pay31 (View.ld wr rR1)) (View.ld br rC)⟩,
    ⟨slab13, k2_pay28 (inp x) (aff y sc sh) (aff2 z tc th) (View.ld wr rR0) (View.ld wr rR1) (View.ld br rC)⟩,
    ⟨slab12, k2_pay27 (k2_pay26 (inp x) (aff y sc sh) (aff2 z tc th) (View.ld wr rR0) (View.ld wr rR1) (View.ld br rC))⟩,
    ⟨slab11, k2_pay25 (inp x) (aff y sc sh) (aff2 z tc th) (k2_pay24 (inp x) (View.ld wr rR0)) (View.ld wr rR1) (View.ld br rC)⟩,
    ⟨slab10, k2_pay23 (inp x) (aff y sc sh) (aff2 z tc th) (View.ld wr rR0) (View.ld wr rR1) (View.ld br rC)⟩,
    ⟨slab9, k2_pay22 (k2_pay21 (inp x) (aff y sc sh) (aff2 z tc th) (View.ld wr rR0) (View.ld wr rR1) (View.ld br rC)) (Scalar.ofBits .f32 0x00000000#32)⟩,
    ⟨slab8, k2_pay20 (inp x) (aff y sc sh) (aff2 z tc th) (k2_pay19 (inp x) (View.ld wr rR0)) (View.ld wr rR1) (View.ld br rC)⟩,
    ⟨slab7, k2_pay18 (inp x) (aff y sc sh) (aff2 z tc th) (View.ld wr rR0) (View.ld wr rR1) (View.ld br rC)⟩,
    ⟨slab6, k2_pay17 (aff2 z tc th) (k2_pay15 (inp x) (aff y sc sh) (View.ld wr rR0) (View.ld wr rR1) (View.ld br rC)) (k2_pay16 (F := F))⟩,
    ⟨slab5, k2_pay14 (inp x) (aff y sc sh) (aff2 z tc th) (k2_pay12 (View.ld wr rR0)) (k2_pay13 (inp x)) (View.ld wr rR1) (View.ld br rC)⟩,
    ⟨slab4, k2_pay11 (inp x) (aff y sc sh) (aff2 z tc th) (View.ld wr rR0) (View.ld wr rR1) (View.ld br rC)⟩,
    ⟨slab3, k2_pay10 (aff y sc sh) (aff2 z tc th) (k2_pay9 (inp x) (View.ld wr rR0) (View.ld wr rR1) (View.ld br rC))⟩,
    ⟨slab2, k2_pay8 (inp x) (aff y sc sh) (aff2 z tc th) (View.ld wr rR0) (View.ld wr rR1) (View.ld br rC)⟩,
    ⟨slab1, k2_pay7 (inp x) (aff y sc sh) (aff2 z tc th) (View.ld wr rR0) (View.ld wr rR1) (View.ld br rC)⟩,
    ⟨slab0, k2_pay6 (aff y sc sh) (aff2 z tc th) (k2_pay5 (View.ld x rX) (View.ld wr rR0) (View.ld wr rR1)) (View.ld br rC)⟩]

/-- The output block. -/
def block : FVec F S1x16x16x8192 .f32 := View.canon (pieces x y z sc sh tc th wr br)

/-- The slabs tile the output block. -/
theorem pieces_cover (i : S1x16x16x8192.Idx) : ∃ pc ∈ pieces x y z sc sh tc th wr br, i ∈ pc.1.set :=
  View.cover_of_tiled (pieces x y z sc sh tc th wr br) S1x16x1x8192.size (by rfl) i

end Values

/-! ## The body's run -/

set_option maxHeartbeats 2000000 in
/-- The body leaves the output block. -/
theorem run (c : Dev nD) (E : Set ℕ) (i : grid2.Coords) (arg1 : Memref sig .tc .vmem S1x32x8192 .f32) (harg1 : arg1.IsWhole) (arg2 : Memref sig .tc .vmem S1x16x8192 .f32) (harg2 : arg2.IsWhole) (arg3 : Memref sig .tc .vmem S1x16x8192 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x2 .f32) (harg8 : arg8.IsWhole) (arg9 : Memref sig .tc .vmem S16x1 .f32) (harg9 : arg9.IsWhole) (arg10 : Memref sig .tc .vmem S1x16x16x8192 .f32) (harg10 : arg10.IsWhole)
    (x : Vec F S1x32x8192 .f32) (y z : Vec F S1x16x8192 .f32) (sc sh tc th : Vec F S16x1 .f32) (wr : Vec F S16x2 .f32) (br : Vec F S16x1 .f32) (K : PUnit → sProp 𝕄) :
    iprop(owns (c : Thread nD τ) arg1 fullShare x ∗ owns (c : Thread nD τ) arg2 fullShare y ∗ owns (c : Thread nD τ) arg3 fullShare z ∗ owns (c : Thread nD τ) arg4 fullShare sc ∗ owns (c : Thread nD τ) arg5 fullShare sh ∗ owns (c : Thread nD τ) arg6 fullShare tc ∗ owns (c : Thread nD τ) arg7 fullShare th ∗ owns (c : Thread nD τ) arg8 fullShare wr ∗ owns (c : Thread nD τ) arg9 fullShare br
        ∗ (∃ d, owns (c : Thread nD τ) arg10 fullShare d)
        ∗ (iprop(owns (c : Thread nD τ) arg1 fullShare x ∗ owns (c : Thread nD τ) arg2 fullShare y ∗ owns (c : Thread nD τ) arg3 fullShare z ∗ owns (c : Thread nD τ) arg4 fullShare sc ∗ owns (c : Thread nD τ) arg5 fullShare sh ∗ owns (c : Thread nD τ) arg6 fullShare tc ∗ owns (c : Thread nD τ) arg7 fullShare th ∗ owns (c : Thread nD τ) arg8 fullShare wr ∗ owns (c : Thread nD τ) arg9 fullShare br
            ∗ owns (c : Thread nD τ) arg10 fullShare (block x y z sc sh tc th wr br)) -∗ K ⟨⟩))
      ⊢ wp frame (wpE (defs₀ (F := F)) Variants.none c none) E (cc2__stage3_body i arg1 harg1 arg2 harg2 arg3 harg3 arg4 harg4 arg5 harg5 arg6 harg6 arg7 harg7 arg8 harg8 arg9 harg9 arg10 harg10) K := by
  simp only [cc2__stage3_body_eq_skeleton]; unfold cc2__stage3_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (pieces_cover _ _ _ _ _ _ _ _ _)).trans ?_
  rfl

/-! ## The proof data at the entry contents `V` -/

section Region
variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: the arrays as entered; after the body each input buffer at its block, and the output at the
    output block. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => block (blk V c 0 t) (blk V c 1 t) (blk V c 2 t) (blk V c 3 t) (blk V c 4 t) (blk V c 5 t) (blk V c 6 t) (blk V c 7 t) (blk V c 8 t)
  Φ _ := Pipeline.ΦA spec2 c
  q _ := fullShare
  owed _ := 0

/-- The arrays start at the contents the region is entered from. -/
theorem A_eq (c : Dev nD) (w : Fin cfg2.W) : (dat V c).A w = V c (Pipeline.arrRef spec2 w) := by
  dsimp only [dat]
/-- After the body, input 0's block is as fetched. -/
theorem after_0 (c : Dev nD) (t : Fin cfg2.N) : (dat V c).after 0 t = blk V c 0 t := by dsimp only [dat]
/-- After the body, input 1's block is as fetched. -/
theorem after_1 (c : Dev nD) (t : Fin cfg2.N) : (dat V c).after 1 t = blk V c 1 t := by dsimp only [dat]
/-- After the body, input 2's block is as fetched. -/
theorem after_2 (c : Dev nD) (t : Fin cfg2.N) : (dat V c).after 2 t = blk V c 2 t := by dsimp only [dat]
/-- After the body, input 3's block is as fetched. -/
theorem after_3 (c : Dev nD) (t : Fin cfg2.N) : (dat V c).after 3 t = blk V c 3 t := by dsimp only [dat]
/-- After the body, input 4's block is as fetched. -/
theorem after_4 (c : Dev nD) (t : Fin cfg2.N) : (dat V c).after 4 t = blk V c 4 t := by dsimp only [dat]
/-- After the body, input 5's block is as fetched. -/
theorem after_5 (c : Dev nD) (t : Fin cfg2.N) : (dat V c).after 5 t = blk V c 5 t := by dsimp only [dat]
/-- After the body, input 6's block is as fetched. -/
theorem after_6 (c : Dev nD) (t : Fin cfg2.N) : (dat V c).after 6 t = blk V c 6 t := by dsimp only [dat]
/-- After the body, input 7's block is as fetched. -/
theorem after_7 (c : Dev nD) (t : Fin cfg2.N) : (dat V c).after 7 t = blk V c 7 t := by dsimp only [dat]
/-- After the body, input 8's block is as fetched. -/
theorem after_8 (c : Dev nD) (t : Fin cfg2.N) : (dat V c).after 8 t = blk V c 8 t := by dsimp only [dat]
/-- After the body, the output block holds the point's values. -/
theorem after_9 (c : Dev nD) (t : Fin cfg2.N) : (dat V c).after 9 t = block (blk V c 0 t) (blk V c 1 t) (blk V c 2 t) (blk V c 3 t) (blk V c 4 t) (blk V c 5 t) (blk V c 6 t) (blk V c 7 t) (blk V c 8 t) := by dsimp only [dat]

/-- An input's staging buffer holds its block at every point. -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
/-- Before the body, input 1's block is the one of its point. -/
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
/-- Before the body, input 2's block is the one of its point. -/
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
/-- Before the body, input 3's block is the one of its point. -/
theorem before_3 (c : Dev nD) (t : Fin cfg2.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
/-- Before the body, input 4's block is the one of its point. -/
theorem before_4 (c : Dev nD) (t : Fin cfg2.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
/-- Before the body, input 5's block is the one of its point. -/
theorem before_5 (c : Dev nD) (t : Fin cfg2.N) (d) : (dat V c).before 5 t d = blk V c 5 t :=
  ((dat V c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
/-- Before the body, input 6's block is the one of its point. -/
theorem before_6 (c : Dev nD) (t : Fin cfg2.N) (d) : (dat V c).before 6 t d = blk V c 6 t :=
  ((dat V c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)
/-- Before the body, input 7's block is the one of its point. -/
theorem before_7 (c : Dev nD) (t : Fin cfg2.N) (d) : (dat V c).before 7 t d = blk V c 7 t :=
  ((dat V c).before_in_eq_fetched 7 rfl (fun _ => rfl) (fun _ _ _ => rfl)
    (fun t => by rw [after_7]; unfold Dat.blockOf blk; rw [A_eq]; try rfl) t d).trans
    (by unfold Dat.fetched Dat.blockOf blk; rw [A_eq]; try rfl)
/-- Before the body, input 8's block is the one of its point. -/
theorem before_8 (c : Dev nD) (t : Fin cfg2.N) (d) : (dat V c).before 8 t d = blk V c 8 t :=
  ((dat V c).before_in_eq_fetched 8 rfl (fun _ => rfl) (fun _ _ _ => rfl)
    (fun t => by rw [after_8]; unfold Dat.blockOf blk; rw [A_eq]; try rfl) t d).trans
    (by unfold Dat.fetched Dat.blockOf blk; rw [A_eq]; try rfl)

/-- No window is ever idle: every point stores into every output. -/
theorem live : ∀ (w : Fin cfg2.W) (t : Fin cfg2.N), cfg2.idle w (grid2.coords t) = false := by decide +kernel

/-- What is owed of window `w` after a point is its staging buffer at the proof data's contents. -/
theorem leaves (c : Dev nD) (w : Fin cfg2.W) (t : Fin cfg2.N) :
    (dat V c).leavesExact w t = owns (c : Thread nD τ) ((cfg2.win w).stage (cfg2.slots t w)) fullShare ((dat V c).after w t) := by
  unfold Dat.leavesExact; rw [live w t]

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (stage2_0 (cfg2.slots t 0)) fullShare ((dat V c).before 0 t d))
    ∗ (∃ d, owns (c : Thread nD τ) (stage2_1 (cfg2.slots t 1)) fullShare ((dat V c).before 1 t d))
    ∗ (∃ d, owns (c : Thread nD τ) (stage2_2 (cfg2.slots t 2)) fullShare ((dat V c).before 2 t d))
    ∗ (∃ d, owns (c : Thread nD τ) (stage2_3 (cfg2.slots t 3)) fullShare ((dat V c).before 3 t d))
    ∗ (∃ d, owns (c : Thread nD τ) (stage2_4 (cfg2.slots t 4)) fullShare ((dat V c).before 4 t d))
    ∗ (∃ d, owns (c : Thread nD τ) (stage2_5 (cfg2.slots t 5)) fullShare ((dat V c).before 5 t d))
    ∗ (∃ d, owns (c : Thread nD τ) (stage2_6 (cfg2.slots t 6)) fullShare ((dat V c).before 6 t d))
    ∗ (∃ d, owns (c : Thread nD τ) (stage2_7 (cfg2.slots t 7)) fullShare ((dat V c).before 7 t d))
    ∗ (∃ d, owns (c : Thread nD τ) (stage2_8 (cfg2.slots t 8)) fullShare ((dat V c).before 8 t d))
    ∗ (∃ d, owns (c : Thread nD τ) (stage2_9 (cfg2.slots t 9)) fullShare ((dat V c).before 9 t d)))
/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t)

set_option maxHeartbeats 800000 in
/-- The body at any point takes the one to the other. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8]
  rw [show (dat V c).Φ t.succ = (dat V c).Φ t.castSucc from rfl,
    show (dat V c).owesAt () t.succ = (dat V c).owesAt () t.castSucc from rfl]
  simp only [leaves]
  rw [after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c Set.univ (grid2.coords t) _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body. -/
theorem row (t : Fin cfg2.N) : defs₀ (F := F) .tc cfg2.body (cfg2.bodyArgs t (cfg2.slots t)) = bodyAt2 t := by
  unfold defs₀; rw [Defs.onTc_tc]

/-- The body obligation of the region, at every point. -/
theorem obligation (c : Dev nD) : BodyObligation (dat (F := F) V c) (defs₀ (F := F)) Variants.none () Set.univ := fun t => by
  rw [bigSep_W2, bigSep_W2, row]
  exact triple_restated (sound_body V c t) rfl .rfl fun _ => .rfl

end Region

end Cert.KernelIdeal.Stage3

end
-- ==== Proof.KernelIdeal.Run.lean ====
/- The whole run of the kernel's @main: the buffer contents at each boundary between the host stretches and the three
   pipeline regions, and the proof that every execution ends with every unscoped buffer at the last of them. -/
module

public import proofs.«01_k».proof.Proof.KernelIdeal.Stage1
public import proofs.«01_k».proof.Proof.KernelIdeal.Stage2
public import proofs.«01_k».proof.Proof.KernelIdeal.Stage3
public import proofs.«01_k».proof.Proof.Gen.KernelIdeal.Regions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev args : List (Ref sig .tc) := [main_arg0, main_arg1, main_arg2, main_arg3, main_arg4, main_arg5, main_arg6, main_arg7, main_arg8, main_arg9, main_arg10, main_arg11]

/-- No argument array is written by the first host stretch. -/
theorem args_host0 : ∀ a ∈ args, a ∉ hostOps0_W := ListAll.forall_mem_of_all_decide (by decide +kernel)
/-- No argument array is written by the second host stretch. -/
theorem args_host1 : ∀ a ∈ args, a ∉ hostOps1_W := ListAll.forall_mem_of_all_decide (by decide +kernel)
/-- No argument array is written by the third host stretch. -/
theorem args_host2 : ∀ a ∈ args, a ∉ hostOps2_W := ListAll.forall_mem_of_all_decide (by decide +kernel)
/-- No argument array is written by the fourth host stretch. -/
theorem args_host3 : ∀ a ∈ args, a ∉ hostOps3_W := ListAll.forall_mem_of_all_decide (by decide +kernel)
/-- No argument array is an output of pallas_call 1. -/
theorem args_region0 : ∀ a ∈ args, ∀ w : Fin cfg0.W, Pipeline.arrRef spec0 w = a → (cfg0.win w).isOut = false :=
  ListAll.forall_mem_of_all_decide (by decide +kernel)
/-- No argument array is an output of pallas_call 2. -/
theorem args_region1 : ∀ a ∈ args, ∀ w : Fin cfg1.W, Pipeline.arrRef spec1 w = a → (cfg1.win w).isOut = false :=
  ListAll.forall_mem_of_all_decide (by decide +kernel)
/-- No argument array is an output of pallas_call 3. -/
theorem args_region2 : ∀ a ∈ args, ∀ w : Fin cfg2.W, Pipeline.arrRef spec2 w = a → (cfg2.win w).isOut = false :=
  ListAll.forall_mem_of_all_decide (by decide +kernel)

/-! ## The contents at the boundaries -/

/-- Core `c`'s buffers at launch. -/
abbrev W0 : Dev nD → Valuation τ sig (Elt F) := fun c b => (s₀ m ρ).mem ((c : Dev nD), b)

/-- The contents pallas_call 1 is entered from, -/
abbrev W1 : Dev nD → Valuation τ sig (Elt F) := fun c => StableHlo.after hostOps0 (W0 m ρ c)
/-- The contents `W1`, read per buffer of a core. -/
abbrev V1 : (c : Dev nD) → (b : Ref sig .tc) → Buf (Elt F) ((c : Thread nD τ).loc b) := fun c b => W1 m ρ c b
/-- A buffer the host stretch before `W1` does not write is as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- and those it leaves: its arrays at what its write-backs make of them, every other buffer as entered. -/
def W2 (c : Dev nD) : Valuation τ sig (Elt F) :=
  Pipeline.withArrays spec0 c (W1 m ρ c) fun w => (Stage1.dat (V1 m ρ) c).arrAt w cfg0.N
/-- The contents `W2`, read per buffer of a core. -/
abbrev V2 : (c : Dev nD) → (b : Ref sig .tc) → Buf (Elt F) ((c : Thread nD τ).loc b) := fun c b => W2 m ρ c b
/-- At `W2` an array of the call holds what its write-backs make of it. -/
theorem W2_arr (c : Dev nD) (w : Fin cfg0.W) :
    W2 m ρ c (Proc.devRef .tc (Pipeline.arrRef spec0 w)) = (Stage1.dat (V1 m ρ) c).arrAt w cfg0.N := by
  unfold W2; exact Pipeline.withArrays_arr spec0 launch0.win.arr_inj c _ _ w
/-- At `W2` a buffer that is no array of the call is as entered. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of the call is as entered. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Stage1.dat (V1 m ρ) c).arrAt_in w (h w rfl) _).trans (Stage1.A_eq (V1 m ρ) c w))
  · exact W2_of_ne m ρ c r fun w e => hw ⟨w, e⟩
/-- What pallas_call 1 leaves in its arrays. -/
theorem left0 (c : Dev nD) (w : Fin cfg0.W) : (Stage1.dat (V1 m ρ) c).arrAt w cfg0.N = V2 m ρ c (Pipeline.arrRef spec0 w) :=
  (W2_arr m ρ c w).symm
/-- What pallas_call 1 leaves in the other buffers. -/
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The contents pallas_call 2 is entered from, -/
abbrev W3 : Dev nD → Valuation τ sig (Elt F) := fun c => StableHlo.after hostOps1 (W2 m ρ c)
/-- The contents `W3`, read per buffer of a core. -/
abbrev V3 : (c : Dev nD) → (b : Ref sig .tc) → Buf (Elt F) ((c : Thread nD τ).loc b) := fun c b => W3 m ρ c b
/-- A buffer the host stretch before `W3` does not write is as it was. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- and those it leaves: its arrays at what its write-backs make of them, every other buffer as entered. -/
def W4 (c : Dev nD) : Valuation τ sig (Elt F) :=
  Pipeline.withArrays spec1 c (W3 m ρ c) fun w => (Stage2.dat (V3 m ρ) c).arrAt w cfg1.N
/-- The contents `W4`, read per buffer of a core. -/
abbrev V4 : (c : Dev nD) → (b : Ref sig .tc) → Buf (Elt F) ((c : Thread nD τ).loc b) := fun c b => W4 m ρ c b
/-- At `W4` an array of the call holds what its write-backs make of it. -/
theorem W4_arr (c : Dev nD) (w : Fin cfg1.W) :
    W4 m ρ c (Proc.devRef .tc (Pipeline.arrRef spec1 w)) = (Stage2.dat (V3 m ρ) c).arrAt w cfg1.N := by
  unfold W4; exact Pipeline.withArrays_arr spec1 launch1.win.arr_inj c _ _ w
/-- At `W4` a buffer that is no array of the call is as entered. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no output of the call is as entered. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Stage2.dat (V3 m ρ) c).arrAt_in w (h w rfl) _).trans (Stage2.A_eq (V3 m ρ) c w))
  · exact W4_of_ne m ρ c r fun w e => hw ⟨w, e⟩
/-- What pallas_call 2 leaves in its arrays. -/
theorem left1 (c : Dev nD) (w : Fin cfg1.W) : (Stage2.dat (V3 m ρ) c).arrAt w cfg1.N = V4 m ρ c (Pipeline.arrRef spec1 w) :=
  (W4_arr m ρ c w).symm
/-- What pallas_call 2 leaves in the other buffers. -/
theorem rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The contents pallas_call 3 is entered from, -/
abbrev W5 : Dev nD → Valuation τ sig (Elt F) := fun c => StableHlo.after hostOps2 (W4 m ρ c)
/-- The contents `W5`, read per buffer of a core. -/
abbrev V5 : (c : Dev nD) → (b : Ref sig .tc) → Buf (Elt F) ((c : Thread nD τ).loc b) := fun c b => W5 m ρ c b
/-- A buffer the host stretch before `W5` does not write is as it was. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- and those it leaves: its arrays at what its write-backs make of them, every other buffer as entered. -/
def W6 (c : Dev nD) : Valuation τ sig (Elt F) :=
  Pipeline.withArrays spec2 c (W5 m ρ c) fun w => (Stage3.dat (V5 m ρ) c).arrAt w cfg2.N
/-- The contents `W6`, read per buffer of a core. -/
abbrev V6 : (c : Dev nD) → (b : Ref sig .tc) → Buf (Elt F) ((c : Thread nD τ).loc b) := fun c b => W6 m ρ c b
/-- At `W6` an array of the call holds what its write-backs make of it. -/
theorem W6_arr (c : Dev nD) (w : Fin cfg2.W) :
    W6 m ρ c (Proc.devRef .tc (Pipeline.arrRef spec2 w)) = (Stage3.dat (V5 m ρ) c).arrAt w cfg2.N := by
  unfold W6; exact Pipeline.withArrays_arr spec2 launch2.win.arr_inj c _ _ w
/-- At `W6` a buffer that is no array of the call is as entered. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is no output of the call is as entered. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((Stage3.dat (V5 m ρ) c).arrAt_in w (h w rfl) _).trans (Stage3.A_eq (V5 m ρ) c w))
  · exact W6_of_ne m ρ c r fun w e => hw ⟨w, e⟩
/-- What pallas_call 3 leaves in its arrays. -/
theorem left2 (c : Dev nD) (w : Fin cfg2.W) : (Stage3.dat (V5 m ρ) c).arrAt w cfg2.N = V6 m ρ c (Pipeline.arrRef spec2 w) :=
  (W6_arr m ρ c w).symm
/-- What pallas_call 3 leaves in the other buffers. -/
theorem rest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The contents at the return. -/
abbrev W7 : Dev nD → Valuation τ sig (Elt F) := fun c => StableHlo.after hostOps3 (W6 m ρ c)
/-- A buffer the host stretch before `W7` does not write is as it was. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-! ## The arguments are unchanged at every boundary -/

/-- At `W1` the argument arrays are as launched. -/
theorem W1_args (c : Dev nD) (a : Ref sig .tc) (ha : a ∈ args) : W1 m ρ c (Proc.devRef .tc a) = m ((c : Thread nD τ).loc a) :=
  (W1_of m ρ c a (args_host0 a ha)).trans (rfl)
/-- At `W2` the argument arrays are as launched. -/
theorem W2_args (c : Dev nD) (a : Ref sig .tc) (ha : a ∈ args) : W2 m ρ c (Proc.devRef .tc a) = m ((c : Thread nD τ).loc a) :=
  (W2_of m ρ c a (args_region0 a ha)).trans (W1_args m ρ c a ha)
/-- At `W3` the argument arrays are as launched. -/
theorem W3_args (c : Dev nD) (a : Ref sig .tc) (ha : a ∈ args) : W3 m ρ c (Proc.devRef .tc a) = m ((c : Thread nD τ).loc a) :=
  (W3_of m ρ c a (args_host1 a ha)).trans (W2_args m ρ c a ha)
/-- At `W4` the argument arrays are as launched. -/
theorem W4_args (c : Dev nD) (a : Ref sig .tc) (ha : a ∈ args) : W4 m ρ c (Proc.devRef .tc a) = m ((c : Thread nD τ).loc a) :=
  (W4_of m ρ c a (args_region1 a ha)).trans (W3_args m ρ c a ha)
/-- At `W5` the argument arrays are as launched. -/
theorem W5_args (c : Dev nD) (a : Ref sig .tc) (ha : a ∈ args) : W5 m ρ c (Proc.devRef .tc a) = m ((c : Thread nD τ).loc a) :=
  (W5_of m ρ c a (args_host2 a ha)).trans (W4_args m ρ c a ha)
/-- At `W6` the argument arrays are as launched. -/
theorem W6_args (c : Dev nD) (a : Ref sig .tc) (ha : a ∈ args) : W6 m ρ c (Proc.devRef .tc a) = m ((c : Thread nD τ).loc a) :=
  (W6_of m ρ c a (args_region2 a ha)).trans (W5_args m ρ c a ha)
/-- At `W7` the argument arrays are as launched. -/
theorem W7_args (c : Dev nD) (a : Ref sig .tc) (ha : a ∈ args) : W7 m ρ c (Proc.devRef .tc a) = m ((c : Thread nD τ).loc a) :=
  (W7_of m ρ c a (args_host3 a ha)).trans (W6_args m ρ c a ha)

/-! ## The proof data family and what rides through every segment -/

/-- The regions' configurations are admissible. -/
abbrev adm : (p : Fin 3) → (pcfgs (F := F) p).Adm := fun p => (cfgs p).toPCfg_adm
/-- Each region's proof data at its entry contents. -/
def pdats : (p : Fin 3) → (c : Dev nD) → Dat τ (Elt F) Unit ℕ (UR sig nD τ) ℕ (Pipeline.pin (pcfgs (F := F)) adm p) c
  | ⟨0, _⟩ => fun c => Stage1.dat (V1 m ρ) c
  | ⟨1, _⟩ => fun c => Stage2.dat (V3 m ρ) c
  | ⟨2, _⟩ => fun c => Stage3.dat (V5 m ρ) c
/-- No variant is used, -/
abbrev 𝒱₀ : Variants := Variants.none
/-- no counter carries obligations, -/
abbrev L : GSem nD τ sig → Finset Unit := fun _ => ∅
/-- and all levels are zero. -/
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that is not scoped is among those held throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W7 m ρ c) ∗ ∃ r, prngReg c r)

/-! ## The regions as segments -/

-- the library's lemmas are stated over the pinned configuration, which unification has to unfold
set_option backward.isDefEq.respectTransparency.types false in
/-- Pallas_call 1 takes every unscoped buffer from `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stage1.obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Stage1.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unification has to unfold
set_option backward.isDefEq.respectTransparency.types false in
/-- Pallas_call 2 takes every unscoped buffer from `W3` to `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Stage2.obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (Stage2.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unification has to unfold
set_option backward.isDefEq.respectTransparency.types false in
/-- Pallas_call 3 takes every unscoped buffer from `W5` to `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Stage3.obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (Stage3.A_eq (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- @main's seven segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of its seven segments. -/
theorem main_run (c : Dev nD) : main (F := F) c = Pipeline.Seg.run (segs m ρ) := (main_chain c).trans (by chain_rfl)

/-- Every semaphore of a core is scoped. -/
theorem no_unscoped : ∀ sm : SemLoc sig, sm.isScoped .tc = true := by decide

set_option backward.isDefEq.respectTransparency.types false in
/-- Every execution terminates without fault, with every unscoped buffer at `W7` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- In a final state of the run an argument array is as launched. -/
theorem arg_end {s : MemSt nD τ sig (Elt F)} (c : Dev nD) (h : ∀ b ∈ Pipeline.ucRefs τ sig, s.mem (((c : Thread nD τ)).1, b) = W7 m ρ c b)
    (a : Ref sig .tc) (ha : a ∈ args) (hs : ¬ (Proc.devRef .tc a : DevRef τ sig).isScoped) :
    s.mem ((c.tc : Thread nD τ).loc a) = m ((c.tc : Thread nD τ).loc a) :=
  (h _ (mem_uc a hs)).trans (W7_args m ρ c a ha)

/-- and so are all of them. -/
theorem args_end {s : MemSt nD τ sig (Elt F)} (c : Dev nD) (h : ∀ b ∈ Pipeline.ucRefs τ sig, s.mem (((c : Thread nD τ)).1, b) = W7 m ρ c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨arg_end m ρ c h main_arg0 (by decide) (by decide),
    arg_end m ρ c h main_arg1 (by decide) (by decide),
    arg_end m ρ c h main_arg2 (by decide) (by decide),
    arg_end m ρ c h main_arg3 (by decide) (by decide),
    arg_end m ρ c h main_arg4 (by decide) (by decide),
    arg_end m ρ c h main_arg5 (by decide) (by decide),
    arg_end m ρ c h main_arg6 (by decide) (by decide),
    arg_end m ρ c h main_arg7 (by decide) (by decide),
    arg_end m ρ c h main_arg8 (by decide) (by decide),
    arg_end m ρ c h main_arg9 (by decide) (by decide),
    arg_end m ρ c h main_arg10 (by decide) (by decide),
    arg_end m ρ c h main_arg11 (by decide) (by decide)⟩

end Cert.KernelIdeal.Run

end
-- ==== Proof.Value.Spec.lean ====
/- The two layers over the extended reals: the kernel's arrangement (averages taken before the convolution, one pass
   statistics, an affine normalisation) as definitions, and the identities that lead the reference's arrangement
   (convolution at every position, then the average; two pass statistics) to it. -/
module

public import Idealize.ShloMosaic.Lib.Pointwise

@[expose] public section

noncomputable section

namespace Cert.Spec

open scoped BigOperators
open Idealize.ShloMosaic

/-! ## Constants -/

/-- One sixteenth, -/
def sixteenth : EReal := ((1 / 16 : ℝ) : EReal)
/-- the constant added to a variance, -/
def eps : ℝ := 10995116 / 2 ^ 40
/-- and the numbers of summands of a mean: over batches and times, and over positions too. -/
def num : EReal := ((262144 : ℝ) : EReal)
/-- The number of summands over positions too. -/
def num16 : EReal := ((4194304 : ℝ) : EReal)

/-- The added constant is positive. -/
theorem eps_pos : 0 < eps := by unfold eps; positivity

/-- The word of 1/16, -/
theorem ofBits_sixteenth : Ideal.ofBits .f32 0x3D800000#32 = sixteenth := by
  unfold sixteenth
  simp [Ideal.ofBits, Ideal.ieee, -EReal.coe_mul]; norm_num
/-- of the number of batches and times, -/
theorem ofBits_count : Ideal.ofBits .f32 0x48800000#32 = num := by
  unfold num
  simp [Ideal.ofBits, Ideal.ieee, -EReal.coe_mul]; norm_num
/-- of the number of batches, times and positions, -/
theorem ofBits_count16 : Ideal.ofBits .f32 0x4A800000#32 = num16 := by
  unfold num16
  simp [Ideal.ofBits, Ideal.ieee, -EReal.coe_mul]; norm_num
/-- of 16, -/
theorem ofBits_sixteen : Ideal.ofBits .f32 0x41800000#32 = ((16 : ℝ) : EReal) := by
  simp [Ideal.ofBits, Ideal.ieee, -EReal.coe_mul]; norm_num
/-- of the added constant, -/
theorem ofBits_eps : Ideal.ofBits .f32 0x3727C5AC#32 = (eps : EReal) := by
  unfold eps
  simp [Ideal.ofBits, Ideal.ieee, -EReal.coe_mul]; norm_num
/-- and of infinity. -/
theorem ofBits_inf : Ideal.ofBits .f32 0x7F800000#32 = (⊤ : EReal) := by
  simp [Ideal.ofBits, Ideal.ieee]

/-! ## The network -/

/-- A row behind one zero and before another, at a position of the padded row. -/
def padAt (f : Fin 8192 → EReal) (k : ℕ) : EReal := if h : 1 ≤ k ∧ k ≤ 8192 then f ⟨k - 1, by omega⟩ else 0

/-- The three-tap convolution with bias, over `n` channels. -/
def conv {n : ℕ} (w : Fin 16 → Fin n → Fin 3 → EReal) (b : Fin 16 → EReal) (f : Fin n → Fin 8192 → EReal) (o : Fin 16) (t : Fin 8192) : EReal :=
  b o + ∑ c, w o c 0 * padAt (f c) t + ∑ c, w o c 1 * padAt (f c) (t + 1) + ∑ c, w o c 2 * padAt (f c) (t + 2)

/-- The weights of the first layer over all 32 rows (16 positions of 2 channels), averaging included. -/
def tiled (W : Fin 16 → Fin 2 → Fin 3 → EReal) (o : Fin 16) (c : Fin 32) (d : Fin 3) : EReal :=
  W o ⟨c % 2, by omega⟩ d * sixteenth

/-- The mean of an array, its variance as the mean of the squares less the square of the mean, and the factor and the
    summand of the normalisation. -/
def mean (y : Fin 32 → Fin 8192 → EReal) : EReal := Ideal.div (∑ b, ∑ t, y b t) num
/-- The variance, in one pass. -/
def var (y : Fin 32 → Fin 8192 → EReal) : EReal := Ideal.div (∑ b, ∑ t, y b t * y b t) num - mean y * mean y
/-- The factor of the normalisation. -/
def scale (y : Fin 32 → Fin 8192 → EReal) (g : EReal) : EReal := Ideal.div g (Ideal.sqrt (var y + eps))
/-- The summand of the normalisation. -/
def shift (y : Fin 32 → Fin 8192 → EReal) (g be : EReal) : EReal := be - mean y * scale y g

/-- The mean and the variance as the reference takes them: over sixteen equal copies, and in two passes. -/
def mean16 (y : Fin 32 → Fin 8192 → EReal) : EReal := Ideal.div (∑ b, ∑ t, ∑ _w : Fin 16, y b t) num16
/-- The variance, in two passes. -/
def var16 (y : Fin 32 → Fin 8192 → EReal) : EReal :=
  Ideal.div (∑ b, ∑ t, ∑ _w : Fin 16, (y b t - mean16 y) * (y b t - mean16 y)) num16

/-- The rows of the input: two channels at each of sixteen positions. -/
def row (v : Fin 16) (c : Fin 2) : Fin 32 := ⟨2 * v + c, by omega⟩

section Net
variable (x : Fin 32 → Fin 32 → Fin 8192 → EReal) (W0 : Fin 16 → Fin 2 → Fin 3 → EReal) (b0 g0 be0 : Fin 16 → EReal)
  (Wr : Fin 16 → Fin 2 → EReal) (br : Fin 16 → EReal) (W1 : Fin 16 → Fin 16 → Fin 3 → EReal) (b1 g1 be1 : Fin 16 → EReal)

/-- The first layer before its normalisation (no position axis: it is the same at all of them). -/
def y0 (o : Fin 16) (b : Fin 32) (t : Fin 8192) : EReal := conv (tiled W0) b0 (x b) o t
/-- The residual of the first layer. -/
def res (b : Fin 32) (v o : Fin 16) (t : Fin 8192) : EReal := Wr o 0 * x b (row v 0) t + Wr o 1 * x b (row v 1) t + br o
/-- The first layer. -/
def h (b : Fin 32) (v o : Fin 16) (t : Fin 8192) : EReal :=
  max (scale (y0 x W0 b0 o) (g0 o) * y0 x W0 b0 o b t + shift (y0 x W0 b0 o) (g0 o) (be0 o) + res x Wr br b v o t) 0
/-- Its average over the positions. -/
def hbar (b : Fin 32) (o : Fin 16) (t : Fin 8192) : EReal := (∑ v, h x W0 b0 g0 be0 Wr br b v o t) * sixteenth
/-- The second layer before its normalisation. -/
def y1 (o : Fin 16) (b : Fin 32) (t : Fin 8192) : EReal := conv W1 b1 (hbar x W0 b0 g0 be0 Wr br b) o t
/-- The result. -/
def out (b : Fin 32) (v o : Fin 16) (t : Fin 8192) : EReal :=
  max (scale (y1 x W0 b0 g0 be0 Wr br W1 b1 o) (g1 o) * y1 x W0 b0 g0 be0 Wr br W1 b1 o b t
    + shift (y1 x W0 b0 g0 be0 Wr br W1 b1 o) (g1 o) (be1 o) + h x W0 b0 g0 be0 Wr br b v o t) 0

/-- The rectified first layer is nowhere negative. -/
theorem h_nonneg (b : Fin 32) (v o : Fin 16) (t : Fin 8192) : 0 ≤ h x W0 b0 g0 be0 Wr br b v o t := le_max_right _ _
end Net

/-! ## Averages and convolutions

A product distributes over a sum of extended reals when the factor is a sixteenth, or when the summands are not negative. -/

/-- A sum of two, times a sixteenth. -/
theorem add_mul_sixteenth (a b : EReal) : (a + b) * sixteenth = a * sixteenth + b * sixteenth :=
  EReal.right_distrib_of_nonneg_of_ne_top (EReal.coe_nonneg.2 (by norm_num)) (EReal.coe_ne_top _) a b
/-- A sum, times a sixteenth. -/
theorem sum_mul_sixteenth {ι : Type} (s : Finset ι) (f : ι → EReal) : (∑ i ∈ s, f i) * sixteenth = ∑ i ∈ s, f i * sixteenth := by
  classical
  induction s using Finset.induction_on with
  | empty => simp
  | insert a s ha ih => rw [Finset.sum_insert ha, Finset.sum_insert ha, add_mul_sixteenth, ih]
/-- Any factor times a sum of terms that are not negative. -/
theorem mul_sum_nonneg {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

/-- The average of sixteen equal terms. -/
theorem sum_const16 (a : EReal) : ∑ _v : Fin 16, a * sixteenth = a := by
  rw [Finset.sum_const, Finset.card_univ, Fintype.card_fin, EReal.nsmul_eq_mul, mul_left_comm]
  have e : ((16 : ℕ) : EReal) * sixteenth = 1 := by
    unfold sixteenth
    rw [show ((16 : ℕ) : EReal) = ((16 : ℝ) : EReal) by norm_cast, ← EReal.coe_mul]
    norm_num
  rw [e, mul_one]

/-- A padded row of values that are not negative is not negative. -/
theorem padAt_nonneg (f : Fin 8192 → EReal) (hf : ∀ t, 0 ≤ f t) (k : ℕ) : 0 ≤ padAt f k := by
  unfold padAt; split
  · exact hf _
  · exact le_rfl

/-- A padded row of averages is the average of the padded rows. -/
theorem padAt_mean (f : Fin 16 → Fin 8192 → EReal) (k : ℕ) :
    padAt (fun t => (∑ v, f v t) * sixteenth) k = (∑ v, padAt (f v) k) * sixteenth := by
  unfold padAt; split <;> simp

/-- Averaging the convolutions of the sixteen positions: the bias stays, each tap is averaged. -/
theorem conv_avg {n : ℕ} (w : Fin 16 → Fin n → Fin 3 → EReal) (b : Fin 16 → EReal) (f : Fin 16 → Fin n → Fin 8192 → EReal) (o : Fin 16) (t : Fin 8192)
    (T : Fin 3 → ℕ → EReal) (hT : ∀ d k, ∑ v, (∑ c, w o c d * padAt (f v c) k) * sixteenth = T d k) :
    (∑ v, conv w b (f v) o t * sixteenth) = b o + T 0 t + T 1 (t + 1) + T 2 (t + 2) := by
  unfold conv
  simp only [add_mul_sixteenth, Finset.sum_add_distrib, sum_const16, hT]

/-- Averaging the convolutions of the sixteen positions is convolving the averaged rows. -/
theorem conv_mean (w : Fin 16 → Fin 16 → Fin 3 → EReal) (b : Fin 16 → EReal) (f : Fin 16 → Fin 16 → Fin 8192 → EReal)
    (hf : ∀ v c t, 0 ≤ f v c t) (o : Fin 16) (t : Fin 8192) :
    (∑ v, conv w b (f v) o t * sixteenth) = conv w b (fun c t => (∑ v, f v c t) * sixteenth) o t :=
  conv_avg w b f o t (fun d k => ∑ c, w o c d * padAt (fun t => (∑ v, f v c t) * sixteenth) k) fun d k => by
    simp only [sum_mul_sixteenth]
    rw [Finset.sum_comm]
    refine Finset.sum_congr rfl fun c _ => ?_
    have e := padAt_mean (fun v => f v c) k
    simp only [sum_mul_sixteenth] at e
    rw [e, ← sum_mul_sixteenth, ← sum_mul_sixteenth, ← mul_assoc, mul_sum_nonneg _ _ _ fun v => padAt_nonneg _ (hf v c) k]

/-- A sum over the rows is a sum over positions and channels. -/
theorem sum_rows (f : Fin 32 → EReal) : (∑ c, f c) = ∑ v, ∑ c, f (row v c) := by
  rw [← Fintype.sum_prod_type' (f := fun v c => f (row v c))]
  exact (Fintype.sum_equiv (finProdFinEquiv (m := 16) (n := 2)) _ f fun p => congrArg f (Fin.ext (by simp [row, finProdFinEquiv]; omega))).symm

/-- Averaging the two-channel convolutions of the sixteen positions is one convolution over the 32 rows with the tiled
    weights. -/
theorem conv_tiled (W : Fin 16 → Fin 2 → Fin 3 → EReal) (b : Fin 16 → EReal) (x : Fin 32 → Fin 8192 → EReal) (o : Fin 16) (t : Fin 8192) :
    (∑ v, conv W b (fun c => x (row v c)) o t * sixteenth) = conv (tiled W) b x o t :=
  conv_avg W b (fun v c => x (row v c)) o t (fun d k => ∑ c, tiled W o c d * padAt (x c) k) fun d k => by
    rw [sum_rows]
    refine Finset.sum_congr rfl fun v _ => ?_
    rw [sum_mul_sixteenth]
    refine Finset.sum_congr rfl fun c _ => ?_
    have : (⟨(row v c : ℕ) % 2, by omega⟩ : Fin 2) = c := Fin.ext (by simp [row]; omega)
    unfold tiled; rw [this, mul_right_comm]

/-! ## Normalising real values -/

/-- A sum of reals, read in the extended reals. -/
theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s
/-- A quotient of reals by one that is not zero. -/
theorem div_coe {a b : ℝ} (hb : b ≠ 0) : Ideal.div (a : EReal) (b : EReal) = ((a / b : ℝ) : EReal) := by
  rw [Ideal.div_coe hb, ← EReal.coe_mul, mul_one_div]
/-- The root of a real that is not negative. -/
theorem sqrt_coe {a : ℝ} (ha : 0 ≤ a) : Ideal.sqrt (a : EReal) = (Real.sqrt a : EReal) := by
  rw [Ideal.sqrt_coe, if_neg (not_lt.2 ha)]

/-- The mean and the variance of real values. -/
def rmean (y : Fin 32 → Fin 8192 → ℝ) : ℝ := (∑ b, ∑ t, y b t) / 262144
/-- The variance of real values, in one pass. -/
def rvar (y : Fin 32 → Fin 8192 → ℝ) : ℝ := (∑ b, ∑ t, y b t * y b t) / 262144 - rmean y * rmean y

/-- Sixteen equal terms. -/
theorem sum16 (f : Fin 32 → Fin 8192 → ℝ) : (∑ b, ∑ t, ∑ _w : Fin 16, f b t) = 16 * ∑ b, ∑ t, f b t := by
  simp only [Finset.sum_const, Finset.card_univ, Fintype.card_fin, nsmul_eq_mul, ← Finset.mul_sum]
  norm_num

/-- The mean over sixteen equal copies is the mean. -/
theorem rmean16 (y : Fin 32 → Fin 8192 → ℝ) : (∑ b, ∑ t, ∑ _w : Fin 16, y b t) / 4194304 = rmean y := by
  rw [sum16]; unfold rmean; ring

/-- The two pass variance over sixteen equal copies is the one pass variance. -/
theorem rvar16 (y : Fin 32 → Fin 8192 → ℝ) :
    (∑ b, ∑ t, ∑ _w : Fin 16, (y b t - rmean y) * (y b t - rmean y)) / 4194304 = rvar y := by
  rw [sum16 fun b t => (y b t - rmean y) * (y b t - rmean y)]
  have e : ∀ b t, (y b t - rmean y) * (y b t - rmean y) = y b t * y b t - 2 * rmean y * y b t + rmean y * rmean y := fun b t => by ring
  simp only [e, Finset.sum_add_distrib, Finset.sum_sub_distrib, ← Finset.mul_sum, Finset.sum_const, Finset.card_univ,
    Fintype.card_fin, nsmul_eq_mul]
  have hm : (∑ b, ∑ t, y b t) = 262144 * rmean y := by unfold rmean; ring
  rw [hm]; unfold rvar; push_cast; ring

/-- The variance of real values is not negative, -/
theorem rvar_nonneg (y : Fin 32 → Fin 8192 → ℝ) : 0 ≤ rvar y := by
  rw [← rvar16]
  exact div_nonneg (Finset.sum_nonneg fun _ _ => Finset.sum_nonneg fun _ _ => Finset.sum_nonneg fun _ _ => mul_self_nonneg _) (by norm_num)

/-- with the added constant it is positive, -/
theorem rvar_eps_pos (y : Fin 32 → Fin 8192 → ℝ) : 0 < rvar y + eps := add_pos_of_nonneg_of_pos (rvar_nonneg y) eps_pos
/-- and so is its root. -/
theorem sqrt_pos (y : Fin 32 → Fin 8192 → ℝ) : 0 < Real.sqrt (rvar y + eps) := Real.sqrt_pos.2 (rvar_eps_pos y)

section Reals
variable (y : Fin 32 → Fin 8192 → ℝ)

/-- The kernel's mean of real values, -/
theorem mean_coe : mean (fun b t => (y b t : EReal)) = (rmean y : EReal) := by
  unfold mean num
  simp only [← coe_sum]
  rw [div_coe (by norm_num)]; rfl
/-- its variance, -/
theorem var_coe : var (fun b t => (y b t : EReal)) = (rvar y : EReal) := by
  unfold var
  rw [mean_coe]
  unfold num
  simp only [← EReal.coe_mul, ← coe_sum]
  rw [div_coe (by norm_num), ← EReal.coe_sub]; rfl
/-- the reference's mean, -/
theorem mean16_coe : mean16 (fun b t => (y b t : EReal)) = (rmean y : EReal) := by
  unfold mean16 num16
  simp only [← coe_sum]
  rw [div_coe (by norm_num), rmean16]
/-- and its variance: the same two numbers. -/
theorem var16_coe : var16 (fun b t => (y b t : EReal)) = (rvar y : EReal) := by
  unfold var16
  rw [mean16_coe]
  unfold num16
  simp only [← EReal.coe_sub, ← EReal.coe_mul, ← coe_sum]
  rw [div_coe (by norm_num), rvar16]

/-- Normalising, scaling and shifting real values by a real factor is one affine map. -/
theorem affine_coe (g : ℝ) (be : EReal) (b : Fin 32) (t : Fin 8192) :
    Ideal.div (g * ((y b t : EReal) - mean16 fun b t => (y b t : EReal))) (Ideal.sqrt ((var16 fun b t => (y b t : EReal)) + eps)) + be
      = scale (fun b t => (y b t : EReal)) g * y b t + shift (fun b t => (y b t : EReal)) g be := by
  unfold shift scale
  rw [mean16_coe, var16_coe, mean_coe, var_coe, ← EReal.coe_add, sqrt_coe (rvar_eps_pos y).le, ← EReal.coe_sub, ← EReal.coe_mul,
    div_coe (sqrt_pos y).ne', div_coe (sqrt_pos y).ne', ← EReal.coe_mul, ← EReal.coe_mul, sub_eq_add_neg be, add_left_comm, ← EReal.coe_neg,
    ← EReal.coe_add, add_comm be]
  exact congrArg (fun r : ℝ => (r : EReal) + be) (by ring)
end Reals

/-! ## Normalising where an infinity occurs

Both programs then leave the summand `be` alone: the reference divides by an infinite deviation, the kernel's factor is zero. -/

/-- Infinite, of either sign. -/
def Inf (a : EReal) : Prop := a = ⊤ ∨ a = ⊥

/-- An extended real is real or infinite. -/
theorem real_or_inf (a : EReal) : (∃ r : ℝ, a = r) ∨ Inf a := by
  induction a with
  | bot => exact .inr (.inr rfl)
  | coe r => exact .inl ⟨r, rfl⟩
  | top => exact .inr (.inl rfl)
/-- Anything added to an infinity is infinite. -/
theorem Inf.add {a : EReal} (h : Inf a) (b : EReal) : Inf (a + b) := by
  rcases h with rfl | rfl
  · induction b with
    | bot => exact .inr (EReal.add_bot _)
    | coe r => exact .inl (EReal.top_add_coe r)
    | top => exact .inl rfl
  · exact .inr (EReal.bot_add _)
/-- A sum with an infinite term is infinite. -/
theorem Inf.sum {ι : Type} [Fintype ι] (f : ι → EReal) (i : ι) (h : Inf (f i)) : Inf (∑ i, f i) := by
  classical
  rw [← Finset.add_sum_erase _ _ (Finset.mem_univ i)]
  exact h.add _
/-- The square of an infinity is infinity. -/
theorem Inf.mul_self {a : EReal} (h : Inf a) : a * a = ⊤ := by
  rcases h with rfl | rfl
  · exact EReal.top_mul_top
  · exact EReal.bot_mul_bot
/-- An infinity taken from anything is infinite. -/
theorem Inf.sub {m : EReal} (h : Inf m) (a : EReal) : Inf (a - m) := by
  rw [sub_eq_add_neg, add_comm]
  refine Inf.add ?_ a
  rcases h with rfl | rfl
  · exact .inr EReal.neg_top
  · exact .inl EReal.neg_bot
/-- An infinity divided by a positive real is infinite, -/
theorem Inf.div {a : EReal} (h : Inf a) {r : ℝ} (hr : 0 < r) : Inf (Ideal.div a r) := by
  rw [Ideal.div_coe hr.ne']
  rcases h with rfl | rfl
  · exact .inl (EReal.top_mul_coe_of_pos (by positivity))
  · exact .inr (EReal.bot_mul_coe_of_pos (by positivity))
/-- and the positive one stays itself. -/
theorem top_div {r : ℝ} (hr : 0 < r) : Ideal.div ⊤ (r : EReal) = ⊤ := by
  rw [Ideal.div_coe hr.ne']
  exact EReal.top_mul_coe_of_pos (by positivity)
/-- No square is negative. -/
theorem mul_self_nonneg' (a : EReal) : 0 ≤ a * a := by
  rcases real_or_inf a with ⟨r, rfl⟩ | h
  · rw [← EReal.coe_mul]; exact EReal.coe_nonneg.2 (mul_self_nonneg r)
  · rw [h.mul_self]; exact le_top
/-- A sum of terms that are not negative, one of them infinite. -/
theorem sum_top {ι : Type} [Fintype ι] (f : ι → EReal) (hf : ∀ i, 0 ≤ f i) (i : ι) (h : f i = ⊤) : ∑ i, f i = ⊤ :=
  top_le_iff.1 (h ▸ Finset.single_le_sum (fun j _ => hf j) (Finset.mem_univ i))
/-- Anything divided by an infinity is zero. -/
theorem div_inf {b : EReal} (h : Inf b) (a : EReal) : Ideal.div a b = 0 := by
  unfold Ideal.div
  rcases h with rfl | rfl
  · rw [if_neg (by simp), EReal.inv_top, mul_zero]
  · rw [if_neg (by simp), EReal.inv_bot, mul_zero]

section Infinite
variable (y : Fin 32 → Fin 8192 → EReal) (b : Fin 32) (t : Fin 8192) (h : Inf (y b t))
include h

/-- Where an infinity occurs, the kernel's mean is infinite, -/
theorem mean_inf : Inf (mean y) := by
  unfold mean num
  exact Inf.div (Inf.sum (fun b => ∑ t, y b t) b (Inf.sum (fun t => y b t) t h)) (by norm_num)
/-- the reference's mean is infinite, -/
theorem mean16_inf : Inf (mean16 y) := by
  unfold mean16 num16
  exact Inf.div (Inf.sum (fun b => ∑ t, ∑ _w : Fin 16, y b t) b (Inf.sum (fun t => ∑ _w : Fin 16, y b t) t (Inf.sum (fun _ => y b t) 0 h))) (by norm_num)
/-- the kernel's variance is negative infinity, -/
theorem var_inf : var y = ⊥ := by
  unfold var
  rw [(mean_inf y b t h).mul_self, sum_top (fun b => ∑ t, y b t * y b t) (fun b => Finset.sum_nonneg fun t _ => mul_self_nonneg' _) b
    (sum_top _ (fun t => mul_self_nonneg' _) t h.mul_self)]
  exact (congrArg (· - ⊤) (top_div (by norm_num))).trans (by simp)
/-- the reference's is infinity, -/
theorem var16_inf : var16 y = ⊤ := by
  unfold var16
  have hm := mean16_inf y b t h
  have e := sum_top (fun b => ∑ t, ∑ _w : Fin 16, (y b t - mean16 y) * (y b t - mean16 y))
    (fun b => Finset.sum_nonneg fun t _ => Finset.sum_nonneg fun _ _ => mul_self_nonneg' _) b
    (sum_top _ (fun t => Finset.sum_nonneg fun _ _ => mul_self_nonneg' _) t (sum_top _ (fun _ => mul_self_nonneg' _) 0 (hm.sub _).mul_self))
  rw [e]
  exact top_div (by norm_num)
/-- and the kernel's factor is zero. -/
theorem scale_inf (g : EReal) : scale y g = 0 := by
  unfold scale
  rw [var_inf y b t h, EReal.bot_add]
  exact div_inf (.inr rfl) g
end Infinite

/-- Normalising, scaling by a real factor and shifting is one affine map. -/
theorem affine (y : Fin 32 → Fin 8192 → EReal) (g be : EReal) (hg : ∃ r : ℝ, g = r) (b : Fin 32) (t : Fin 8192) :
    Ideal.div (g * (y b t - mean16 y)) (Ideal.sqrt (var16 y + eps)) + be = scale y g * y b t + shift y g be := by
  by_cases hy : ∃ b t, Inf (y b t)
  · obtain ⟨b', t', hi⟩ := hy
    unfold shift
    rw [scale_inf y b' t' hi, var16_inf y b' t' hi, zero_mul, mul_zero, sub_zero, zero_add, EReal.top_add_coe]
    rw [Ideal.sqrt_top, div_inf (.inl rfl), zero_add]
  · have hr : ∀ b t, ∃ r : ℝ, y b t = r := fun b t => (real_or_inf _).resolve_right fun hi => hy ⟨b, t, hi⟩
    choose r hr using hr
    obtain rfl : y = fun b t => (r b t : EReal) := funext fun b => funext fun t => hr b t
    obtain ⟨g, rfl⟩ := hg
    exact affine_coe r g be b t

end Cert.Spec
-- ==== Proof.Value.Stage1.lean ====
/- The first pallas_call over the extended reals: its three results are the convolution and
   its sums. -/
module

public import proofs.«01_k».proof.Proof.KernelIdeal.Stage1
public import proofs.«01_k».proof.Proof.Value.Spec
public import Idealize.ShloMosaic.Lib.Pointwise
public import Idealize.ShloMosaic.Lib.Pipeline.ValueKit

@[expose] public section

set_option maxRecDepth 16384

noncomputable section

namespace Cert.KernelIdeal.Value1

open Cert.KernelIdeal Cert.KernelIdeal.Gen Cert.Spec
open Idealize.ShloMosaic Idealize.ShloMosaic.TcCoe
open scoped BigOperators

/-- The three reads of a padded row: at the tap's own offset the row, outside it the pad value. -/
theorem tap0 (f : Fin 8192 → EReal) (t : Fin 8192) (z : EReal) (hz : z = 0) :
    (if h : (t : ℕ) < 8193 then if h : (t : ℕ) < 1 then z else (f ⟨(t : ℕ) - 1, by omega⟩ : EReal) else z) = padAt f t := by
  subst hz
  unfold padAt
  split_ifs <;> first | rfl | omega
/-- The second tap's read of a padded row. -/
theorem tap1 (f : Fin 8192 → EReal) (t : Fin 8192) (z : EReal) :
    (if h : 1 + (t : ℕ) < 8193 then (f t : EReal) else z) = (padAt f (t + 1) : EReal) := by
  unfold padAt
  split_ifs <;> first | rfl | omega
/-- The third tap's read of a padded row. -/
theorem tap2 (f : Fin 8192 → EReal) (t : Fin 8192) (z : EReal) (hz : z = 0) :
    (if h : 2 + (t : ℕ) < 8193 then if h : 2 + (t : ℕ) < 1 then z else (f ⟨2 + (t : ℕ) - 1, by omega⟩ : EReal) else z) = (padAt f (t + 2) : EReal) := by
  subst hz
  unfold padAt
  split_ifs
  all_goals first | rfl | omega | skip
  exact congrArg (fun k => (f k : EReal)) (Fin.ext (by simp; omega))

section Block
variable (x : Vec Ideal S1x32x8192 .f32) (w : Vec Ideal S3x16x32 .f32) (b : Vec Ideal S16x1 .f32)
  (X : Fin 32 → Fin 8192 → EReal) (W : Fin 16 → Fin 32 → Fin 3 → EReal) (B : Fin 16 → EReal)
  (hx : ∀ c k, x (ix3 0 c k) = X c k) (hw : ∀ d o c, w (ix3 d o c) = W o c d) (hb : ∀ o, b (ix2 o 0) = B o)
include hx hw hb

set_option maxHeartbeats 1000000 in
/-- The convolution block is the convolution. -/
theorem conv_at (o : Fin 16) (t : Fin 8192) : Stage1.conv x w b (ix2 o t) = Spec.conv W B X o t := by
  have hz : (((0#32).toInt : ℝ) : EReal) = 0 := by simp
  unfold Stage1.conv
  pointwise [k0_pay4]
  simp only [hx, hw, hb, tap0 _ _ _ hz, tap1, tap2 _ _ _ hz]
  rfl

/-- The output block, elementwise. -/
theorem block_at (o : Fin 16) (t : Fin 8192) : Stage1.block x w b (ix3 0 o t) = Spec.conv W B X o t := by
  refine Eq.trans ?_ (conv_at x w b X W B hx hw hb o t)
  unfold Stage1.block Stage1.conv
  pointwise [k0_pay5]

/-- Its row sums, in every lane. -/
theorem rowSum_at (o : Fin 16) (l : Fin 128) : Stage1.rowSum x w b (ix2 o l) = (∑ t, Spec.conv W B X o t : EReal) := by
  refine Eq.trans (b := ∑ t, Stage1.conv x w b (ix2 o t)) ?_ ?_
  · unfold Stage1.rowSum Stage1.conv
    pointwise [k0_pay6]
  · simp only [conv_at x w b X W B hx hw hb]

/-- The row sums of its squares. -/
theorem rowSq_at (o : Fin 16) (l : Fin 128) :
    k0_pay1 (Stage1.conv x w b) (ix2 o l) = (∑ t, Spec.conv W B X o t * Spec.conv W B X o t : EReal) := by
  refine Eq.trans (b := ∑ t, Stage1.conv x w b (ix2 o t) * Stage1.conv x w b (ix2 o t)) ?_ ?_
  · pointwise [k0_pay1]
  · simp only [conv_at x w b X W B hx hw hb]
end Block

/-- A sum of two blocks of sums, elementwise. -/
theorem add_at (p q : FVec Ideal S16x128 .f32) (o : Fin 16) (l : Fin 128) :
    k0_pay2 p (View.ld q Stage1.rS) (ix2 o l) = q (ix2 o l) + p (ix2 o l) := by
  pointwise [k0_pay2]
/-- A block of sums of squares with another added, elementwise. -/
theorem addSq_at (p : FVec Ideal S16x8192 .f32) (q : FVec Ideal S16x128 .f32) (o : Fin 16) (l : Fin 128) :
    k0_pay3 p (View.ld q Stage1.rS) (ix2 o l) = q (ix2 o l) + k0_pay1 p (ix2 o l) := by
  pointwise [k0_pay3]

/-- An array's element, as an extended real. -/
abbrev rd {S : Shape} (v : Vec Ideal S .f32) (i : S.Idx) : EReal := v i

section Region
variable (V : (c : Dev nD) → (b : Ref sig .tc) → Buf (Elt Ideal) ((c : Thread nD τ).loc b)) (c : Dev nD)
  (X : Fin 32 → Fin 32 → Fin 8192 → EReal) (W : Fin 16 → Fin 32 → Fin 3 → EReal) (B : Fin 16 → EReal)

/-- The block each window shows at a point. -/
theorem idx : ∀ t : Fin cfg0.N, win0_0.index t = ![t.val, 0, 0] ∧ win0_1.index t = ![0, 0, 0] ∧ win0_2.index t = ![0, 0]
    ∧ win0_3.index t = ![t.val, 0, 0] ∧ win0_4.index t = ![0, 0] ∧ win0_5.index t = ![0, 0] :=
  (by decide +kernel : ∀ t : Fin grid0.N, _)

/-- A point's block of the input, read from the whole array. -/
theorem blk0_at (t : Fin cfg0.N) (k : Fin 32) (j : Fin 8192) :
    (Stage1.blk V c 0 t : Vec Ideal S1x32x8192 .f32) (ix3 0 k j) = (V c main_arg0 : Vec Ideal S32x32x8192 .f32) (ix3 ⟨t.val, t.isLt⟩ k j) := by
  blk_point [Stage1.blk, idx t]
/-- A point's block of the weights, read from the whole array. -/
theorem blk1_at (t : Fin cfg0.N) (d : Fin 3) (o : Fin 16) (k : Fin 32) :
    (Stage1.blk V c 1 t : Vec Ideal S3x16x32 .f32) (ix3 d o k) = (V c main_v20 : Vec Ideal S3x16x32 .f32) (ix3 d o k) := by
  blk_point [Stage1.blk, idx t]
/-- A point's block of the bias, read from the whole array. -/
theorem blk2_at (t : Fin cfg0.N) (o : Fin 16) :
    (Stage1.blk V c 2 t : Vec Ideal S16x1 .f32) (ix2 o 0) = (V c main_v32 : Vec Ideal S16x1 .f32) (ix2 o 0) := by
  blk_point [Stage1.blk, idx t]

variable (hX : ∀ b k j, rd (S := S32x32x8192) (V c main_arg0) (ix3 b k j) = X b k j)
  (hW : ∀ d o k, rd (S := S3x16x32) (V c main_v20) (ix3 d o k) = W o k d)
  (hB : ∀ o, rd (S := S16x1) (V c main_v32) (ix2 o 0) = B o)
include hX hW hB

/-- The running row sums after point `n` are the sums over the first `n + 1` batches. -/
theorem sums_at : ∀ (n : ℕ) (hn : n < 32) (o : Fin 16) (l : Fin 128),
    rd (S := S16x128) (Stage1.sums V c n hn) (ix2 o l)
      = (∑ b : Fin (n + 1), ∑ t, Spec.conv W B (X ⟨b, by omega⟩) o t : EReal)
  | 0, hn, o, l => by
    rw [Fin.sum_univ_one]
    exact rowSum_at _ _ _ (X 0) W B (fun k j => (blk0_at V c _ k j).trans (hX _ k j)) (fun d o k => (blk1_at V c _ d o k).trans (hW d o k))
      (fun o => (blk2_at V c _ o).trans (hB o)) o l
  | n + 1, hn, o, l => by
    rw [Fin.sum_univ_castSucc]
    refine (add_at _ _ o l).trans (congrArg₂ (· + ·) (sums_at n (by omega) o l) ?_)
    exact rowSum_at _ _ _ (X ⟨n + 1, hn⟩) W B (fun k j => (blk0_at V c _ k j).trans (hX _ k j)) (fun d o k => (blk1_at V c _ d o k).trans (hW d o k))
      (fun o => (blk2_at V c _ o).trans (hB o)) o l

/-- The running row sums of the squares after point `n`. -/
theorem sqs_at : ∀ (n : ℕ) (hn : n < 32) (o : Fin 16) (l : Fin 128),
    rd (S := S16x128) (Stage1.sqs V c n hn) (ix2 o l)
      = (∑ b : Fin (n + 1), ∑ t, Spec.conv W B (X ⟨b, by omega⟩) o t * Spec.conv W B (X ⟨b, by omega⟩) o t : EReal)
  | 0, hn, o, l => by
    rw [Fin.sum_univ_one]
    exact rowSq_at _ _ _ (X 0) W B (fun k j => (blk0_at V c _ k j).trans (hX _ k j)) (fun d o k => (blk1_at V c _ d o k).trans (hW d o k))
      (fun o => (blk2_at V c _ o).trans (hB o)) o l
  | n + 1, hn, o, l => by
    rw [Fin.sum_univ_castSucc]
    refine (addSq_at _ _ o l).trans (congrArg₂ (· + ·) (sqs_at n (by omega) o l) ?_)
    exact rowSq_at _ _ _ (X ⟨n + 1, hn⟩) W B (fun k j => (blk0_at V c _ k j).trans (hX _ k j)) (fun d o k => (blk1_at V c _ d o k).trans (hW d o k))
      (fun o => (blk2_at V c _ o).trans (hB o)) o l

/-- The convolution block at a point. -/
theorem after3_at (t : Fin cfg0.N) (o : Fin 16) (j : Fin 8192) :
    rd (S := S1x16x8192) (Stage1.block (Stage1.blk V c 0 t) (Stage1.blk V c 1 t) (Stage1.blk V c 2 t)) (ix3 0 o j)
      = (Spec.conv W B (X ⟨t.val, t.isLt⟩) o j : EReal) :=
  block_at _ _ _ (X ⟨t.val, t.isLt⟩) W B (fun k j => (blk0_at V c _ k j).trans (hX _ k j)) (fun d o k => (blk1_at V c _ d o k).trans (hW d o k))
      (fun o => (blk2_at V c _ o).trans (hB o)) o j

/-- The first result of the region, whole. -/
theorem out0 : (Stage1.dat V c).arrAt 3 cfg0.N
    = fun i : S32x16x8192.Idx => (Spec.conv W B (X (i 0)) (i 1) (i 2) : EReal) := by
  refine (Stage1.dat V c).arrAt_eq_of_covers 3 _ (by decide +kernel) fun t hf y => ?_
  blk_simp [idx t]
  rw [Stage1.after_3]
  have e : y = ix3 (n0 := 1) (n1 := 16) (n2 := 8192) 0 (y 1) (y 2) := by
    funext a; match a with | 0 => exact Subsingleton.elim (α := Fin 1) _ _ | 1 => rfl | 2 => rfl
  refine (congrArg (rd (S := S1x16x8192) (Stage1.block (Stage1.blk V c 0 t) (Stage1.blk V c 1 t) (Stage1.blk V c 2 t))) e).trans
    ((after3_at V c X W B hX hW hB t (y 1) (y 2)).trans ?_)
  have e0 : (win0_3.blk t).view.emb y 0 = (⟨t.val, t.isLt⟩ : Fin 32) := Fin.ext (by blk_simp [idx t])
  have e1 : (win0_3.blk t).view.emb y 1 = (y 1 : Fin 16) := Fin.ext (by blk_simp [idx t])
  have e2 : (win0_3.blk t).view.emb y 2 = (y 2 : Fin 8192) := Fin.ext (by blk_simp [idx t])
  rw [e0, e1, e2]

/-- The second: the sums over all batches, in every lane. -/
theorem out1 : (Stage1.dat V c).arrAt 4 cfg0.N
    = fun i : S16x128.Idx => (∑ b, ∑ t, Spec.conv W B (X b) (i 0) t : EReal) := by
  refine (Stage1.dat V c).arrAt_eq_of_after_last 4 ⟨31, by decide⟩ (by decide +kernel) _ fun j => ?_
  rw [Stage1.after_4]
  blk_simp
  refine Eq.trans ?_ (sums_at V c X W B hX hW hB 31 (by decide) (j 0) (j 1))
  exact congrArg (rd (S := S16x128) (Stage1.sums V c 31 (by decide))) (eq_ix2 j)

/-- The third: the sums of the squares. -/
theorem out2 : (Stage1.dat V c).arrAt 5 cfg0.N
    = fun i : S16x128.Idx => (∑ b, ∑ t, Spec.conv W B (X b) (i 0) t * Spec.conv W B (X b) (i 0) t : EReal) := by
  refine (Stage1.dat V c).arrAt_eq_of_after_last 5 ⟨31, by decide⟩ (by decide +kernel) _ fun j => ?_
  rw [Stage1.after_5]
  blk_simp
  refine Eq.trans ?_ (sqs_at V c X W B hX hW hB 31 (by decide) (j 0) (j 1))
  exact congrArg (rd (S := S16x128) (Stage1.sqs V c 31 (by decide))) (eq_ix2 j)
end Region

end Cert.KernelIdeal.Value1
-- ==== Proof.Value.Stage2.lean ====
/- The second pallas_call over the extended reals: its three results are the convolution of
   the averaged first layer and its sums. -/
module

public import proofs.«01_k».proof.Proof.KernelIdeal.Stage2
public import proofs.«01_k».proof.Proof.Value.Stage1

@[expose] public section

set_option maxRecDepth 16384

noncomputable section

namespace Cert.KernelIdeal.Value2

open Cert.KernelIdeal Cert.KernelIdeal.Gen Cert.Spec Cert.KernelIdeal.Value1
open Idealize.ShloMosaic Idealize.ShloMosaic.TcCoe
open scoped BigOperators

section Layer
variable (x : Vec Ideal S1x32x8192 .f32) (y : Vec Ideal S1x16x8192 .f32) (sc sh : Vec Ideal S16x1 .f32) (wr : Vec Ideal S16x2 .f32) (br : Vec Ideal S16x1 .f32)

/-- The input block without its unit axis. -/
theorem inp_at (k : Fin 32) (t : Fin 8192) : Stage2.inp x (ix2 k t) = x (ix3 0 k t) := by
  unfold Stage2.inp
  pointwise [k1_pay3]
/-- The normalised first layer, elementwise. -/
theorem aff_at (o : Fin 16) (t : Fin 8192) : Stage2.aff y sc sh (ix2 o t) = sc (ix2 o 0) * y (ix3 0 o t) + sh (ix2 o 0) := by
  unfold Stage2.aff
  pointwise [k1_pay4]

variable (X : Fin 32 → Fin 8192 → EReal) (Y : Fin 16 → Fin 8192 → EReal) (SC SH : Fin 16 → EReal) (WR : Fin 16 → Fin 2 → EReal) (BR : Fin 16 → EReal)

/-- The rectified first layer at a position. -/
def layer (v o : Fin 16) (t : Fin 8192) : EReal :=
  max (SC o * Y o t + SH o + (WR o 0 * X (row v 0) t + WR o 1 * X (row v 1) t + BR o)) 0

variable (hx : ∀ c k, x (ix3 0 c k) = X c k) (hy : ∀ o k, y (ix3 0 o k) = Y o k)
  (hsc : ∀ o, sc (ix2 o 0) = SC o) (hsh : ∀ o, sh (ix2 o 0) = SH o)
  (hwr : ∀ o c, wr (ix2 o c) = WR o c) (hbr : ∀ o, br (ix2 o 0) = BR o)
include hx hy hsc hsh hwr hbr

/-! The running sums over the positions. -/

/-- The sum of the rectified first layer over the positions up to 0. -/
theorem acc0_at (o : Fin 16) (t : Fin 8192) : Stage2.acc0 x y sc sh wr br (ix2 o t) = layer X Y SC SH WR BR 0 o t := by
  unfold Stage2.acc0
  pointwise [k1_pay5, k1_pay4, k1_pay3]
  simp only [inp_at, aff_at, hx, hy, hsc, hsh, hwr, hbr]
  rfl
/-- The sum of the rectified first layer over the positions up to 2. -/
theorem acc2_at (o : Fin 16) (t : Fin 8192) : Stage2.acc2 x y sc sh wr br (ix2 o t) = (layer X Y SC SH WR BR 0 o t + layer X Y SC SH WR BR 1 o t + layer X Y SC SH WR BR 2 o t : EReal) := by
  unfold Stage2.acc2
  pointwise [k1_pay8, k1_pay7, k1_pay6, k1_pay4, k1_pay3]
  simp only [acc0_at x y sc sh wr br X Y SC SH WR BR hx hy hsc hsh hwr hbr, inp_at, aff_at, hx, hy, hsc, hsh, hwr, hbr]
  rfl
/-- The sum of the rectified first layer over the positions up to 4. -/
theorem acc4_at (o : Fin 16) (t : Fin 8192) : Stage2.acc4 x y sc sh wr br (ix2 o t) = (layer X Y SC SH WR BR 0 o t + layer X Y SC SH WR BR 1 o t + layer X Y SC SH WR BR 2 o t + layer X Y SC SH WR BR 3 o t + layer X Y SC SH WR BR 4 o t : EReal) := by
  unfold Stage2.acc4
  pointwise [k1_pay10, k1_pay9]
  simp only [acc2_at x y sc sh wr br X Y SC SH WR BR hx hy hsc hsh hwr hbr, inp_at, aff_at, hx, hy, hsc, hsh, hwr, hbr]
  rfl
/-- The sum of the rectified first layer over the positions up to 6. -/
theorem acc6_at (o : Fin 16) (t : Fin 8192) : Stage2.acc6 x y sc sh wr br (ix2 o t) = (layer X Y SC SH WR BR 0 o t + layer X Y SC SH WR BR 1 o t + layer X Y SC SH WR BR 2 o t + layer X Y SC SH WR BR 3 o t + layer X Y SC SH WR BR 4 o t + layer X Y SC SH WR BR 5 o t + layer X Y SC SH WR BR 6 o t : EReal) := by
  unfold Stage2.acc6
  pointwise [k1_pay14, k1_pay13, k1_pay12, k1_pay11]
  simp only [acc4_at x y sc sh wr br X Y SC SH WR BR hx hy hsc hsh hwr hbr, inp_at, aff_at, hx, hy, hsc, hsh, hwr, hbr]
  rfl
/-- The sum of the rectified first layer over the positions up to 8. -/
theorem acc8_at (o : Fin 16) (t : Fin 8192) : Stage2.acc8 x y sc sh wr br (ix2 o t) = (layer X Y SC SH WR BR 0 o t + layer X Y SC SH WR BR 1 o t + layer X Y SC SH WR BR 2 o t + layer X Y SC SH WR BR 3 o t + layer X Y SC SH WR BR 4 o t + layer X Y SC SH WR BR 5 o t + layer X Y SC SH WR BR 6 o t + layer X Y SC SH WR BR 7 o t + layer X Y SC SH WR BR 8 o t : EReal) := by
  unfold Stage2.acc8
  pointwise [k1_pay16, k1_pay15]
  simp only [acc6_at x y sc sh wr br X Y SC SH WR BR hx hy hsc hsh hwr hbr, inp_at, aff_at, hx, hy, hsc, hsh, hwr, hbr]
  rfl
/-- The sum of the rectified first layer over the positions up to 10. -/
theorem acc10_at (o : Fin 16) (t : Fin 8192) : Stage2.acc10 x y sc sh wr br (ix2 o t) = (layer X Y SC SH WR BR 0 o t + layer X Y SC SH WR BR 1 o t + layer X Y SC SH WR BR 2 o t + layer X Y SC SH WR BR 3 o t + layer X Y SC SH WR BR 4 o t + layer X Y SC SH WR BR 5 o t + layer X Y SC SH WR BR 6 o t + layer X Y SC SH WR BR 7 o t + layer X Y SC SH WR BR 8 o t + layer X Y SC SH WR BR 9 o t + layer X Y SC SH WR BR 10 o t : EReal) := by
  unfold Stage2.acc10
  pointwise [k1_pay18, k1_pay17]
  simp only [acc8_at x y sc sh wr br X Y SC SH WR BR hx hy hsc hsh hwr hbr, inp_at, aff_at, hx, hy, hsc, hsh, hwr, hbr]
  rfl
/-- The sum of the rectified first layer over the positions up to 13. -/
theorem acc13_at (o : Fin 16) (t : Fin 8192) : Stage2.acc13 x y sc sh wr br (ix2 o t) = (layer X Y SC SH WR BR 0 o t + layer X Y SC SH WR BR 1 o t + layer X Y SC SH WR BR 2 o t + layer X Y SC SH WR BR 3 o t + layer X Y SC SH WR BR 4 o t + layer X Y SC SH WR BR 5 o t + layer X Y SC SH WR BR 6 o t + layer X Y SC SH WR BR 7 o t + layer X Y SC SH WR BR 8 o t + layer X Y SC SH WR BR 9 o t + layer X Y SC SH WR BR 10 o t + layer X Y SC SH WR BR 11 o t + layer X Y SC SH WR BR 12 o t + layer X Y SC SH WR BR 13 o t : EReal) := by
  unfold Stage2.acc13
  pointwise [k1_pay20, k1_pay19]
  simp only [acc10_at x y sc sh wr br X Y SC SH WR BR hx hy hsc hsh hwr hbr, inp_at, aff_at, hx, hy, hsc, hsh, hwr, hbr]
  rfl

/-- The averaged layer behind one zero. -/
theorem mean_at (o : Fin 16) (t : Fin 8193) (ht : (t : ℕ) < 8193) :
    Stage2.mean x y sc sh wr br (ix2 o t) = (padAt (fun t => (∑ v, layer X Y SC SH WR BR v o t) * sixteenth) t : EReal) := by
  have hz : k1_pay21 (F := Ideal) = (0 : EReal) := by pointwise [k1_pay21]; simp
  unfold Stage2.mean
  pointwise [k1_pay22]
  unfold padAt
  by_cases h : (t : ℕ) < 1
  · rw [dif_pos h, dif_neg (by omega), hz]
  · rw [dif_neg h, dif_pos ⟨by omega, by omega⟩]
    simp only [acc13_at x y sc sh wr br X Y SC SH WR BR hx hy hsc hsh hwr hbr, inp_at, aff_at, hx, hy, hsc, hsh, hwr, hbr, ofBits_sixteenth]
    refine congrArg (· * sixteenth) ?_
    simp only [Fin.sum_univ_castSucc, Finset.univ_eq_empty, Finset.sum_empty, zero_add]
    rfl

variable (w : Vec Ideal S3x16x16 .f32) (b : Vec Ideal S16x1 .f32) (W : Fin 16 → Fin 16 → Fin 3 → EReal) (B : Fin 16 → EReal)
  (hw : ∀ d o c, w (ix3 d o c) = W o c d) (hb : ∀ o, b (ix2 o 0) = B o)
include hw hb

/-- The second layer's convolution block. -/
theorem conv_at (o : Fin 16) (t : Fin 8192) : Stage2.conv x y sc sh wr br w b (ix2 o t)
    = (Spec.conv W B (fun o t => (∑ v, layer X Y SC SH WR BR v o t) * sixteenth) o t : EReal) := by
  have hz : (((0#32).toInt : ℝ) : EReal) = 0 := by simp
  have h0 : ∀ k : Fin 16, (if h : (t : ℕ) < 8193 then Stage2.mean x y sc sh wr br (ix2 k ⟨(t : ℕ), h⟩) else (((0#32).toInt : ℝ) : EReal))
      = (padAt (fun t => (∑ v, layer X Y SC SH WR BR v k t) * sixteenth) t : EReal) := fun k => by
    rw [dif_pos (by omega), mean_at x y sc sh wr br X Y SC SH WR BR hx hy hsc hsh hwr hbr _ _ (by simp; omega)]
  have h1 : ∀ k : Fin 16, (if h : 1 + (t : ℕ) < 8193 then Stage2.mean x y sc sh wr br (ix2 k ⟨1 + (t : ℕ), h⟩) else (((0#32).toInt : ℝ) : EReal))
      = (padAt (fun t => (∑ v, layer X Y SC SH WR BR v k t) * sixteenth) (t + 1) : EReal) := fun k => by
    rw [dif_pos (by omega), mean_at x y sc sh wr br X Y SC SH WR BR hx hy hsc hsh hwr hbr _ _ (by simp; omega)]
    exact congrArg (fun n => (padAt _ n : EReal)) (Nat.add_comm _ _)
  have h2 : ∀ k : Fin 16, (if h : 2 + (t : ℕ) < 8193 then Stage2.mean x y sc sh wr br (ix2 k ⟨2 + (t : ℕ), h⟩) else (((0#32).toInt : ℝ) : EReal))
      = (padAt (fun t => (∑ v, layer X Y SC SH WR BR v k t) * sixteenth) (t + 2) : EReal) := fun k => by
    by_cases h : 2 + (t : ℕ) < 8193
    · rw [dif_pos h, mean_at x y sc sh wr br X Y SC SH WR BR hx hy hsc hsh hwr hbr _ _ (by simp; omega)]
      exact congrArg (fun n => (padAt _ n : EReal)) (Nat.add_comm _ _)
    · rw [dif_neg h, hz, padAt, dif_neg (by omega)]
  unfold Stage2.conv
  pointwise [k1_pay23, k1_pay21]
  simp only [h0, h1, h2, hw, hb]
  rfl

/-- The output block, elementwise. -/
theorem block_at (o : Fin 16) (t : Fin 8192) : Stage2.block x y sc sh wr br w b (ix3 0 o t)
    = (Spec.conv W B (fun o t => (∑ v, layer X Y SC SH WR BR v o t) * sixteenth) o t : EReal) := by
  refine Eq.trans ?_ (conv_at x y sc sh wr br X Y SC SH WR BR hx hy hsc hsh hwr hbr w b W B hw hb o t)
  unfold Stage2.block Stage2.conv
  pointwise [k1_pay24]

/-- Its row sums, in every lane. -/
theorem rowSum_at (o : Fin 16) (l : Fin 128) : Stage2.rowSum x y sc sh wr br w b (ix2 o l)
    = (∑ t, Spec.conv W B (fun o t => (∑ v, layer X Y SC SH WR BR v o t) * sixteenth) o t : EReal) := by
  refine Eq.trans (b := ∑ t, Stage2.conv x y sc sh wr br w b (ix2 o t)) ?_ ?_
  · unfold Stage2.rowSum Stage2.conv
    pointwise [k1_pay25]
  · simp only [conv_at x y sc sh wr br X Y SC SH WR BR hx hy hsc hsh hwr hbr w b W B hw hb]

/-- The row sums of its squares. -/
theorem rowSq_at (o : Fin 16) (l : Fin 128) : Stage2.rowSq x y sc sh wr br w b (ix2 o l)
    = (∑ t, Spec.conv W B (fun o t => (∑ v, layer X Y SC SH WR BR v o t) * sixteenth) o t
        * Spec.conv W B (fun o t => (∑ v, layer X Y SC SH WR BR v o t) * sixteenth) o t : EReal) := by
  refine Eq.trans (b := ∑ t, Stage2.conv x y sc sh wr br w b (ix2 o t) * Stage2.conv x y sc sh wr br w b (ix2 o t)) ?_ ?_
  · unfold Stage2.rowSq Stage2.conv
    pointwise [k1_pay26]
  · simp only [conv_at x y sc sh wr br X Y SC SH WR BR hx hy hsc hsh hwr hbr w b W B hw hb]
end Layer

/-- A sum of two blocks of sums, elementwise. -/
theorem add_at (p q : FVec Ideal S16x128 .f32) (o : Fin 16) (l : Fin 128) :
    k1_pay1 p (View.ld q Stage2.rS) (ix2 o l) = q (ix2 o l) + p (ix2 o l) := by
  pointwise [k1_pay1]
/-- A block of sums of squares with another added, elementwise. -/
theorem addSq_at (p q : FVec Ideal S16x128 .f32) (o : Fin 16) (l : Fin 128) :
    k1_pay2 p (View.ld q Stage2.rS) (ix2 o l) = q (ix2 o l) + p (ix2 o l) := by
  pointwise [k1_pay2]

section Region
variable (V : (c : Dev nD) → (b : Ref sig .tc) → Buf (Elt Ideal) ((c : Thread nD τ).loc b)) (c : Dev nD)

/-- The block each window shows at a point. -/
theorem idx : ∀ t : Fin cfg1.N, win1_0.index t = ![t.val, 0, 0] ∧ win1_1.index t = ![t.val, 0, 0] ∧ win1_2.index t = ![0, 0]
    ∧ win1_3.index t = ![0, 0] ∧ win1_4.index t = ![0, 0] ∧ win1_5.index t = ![0, 0] ∧ win1_6.index t = ![0, 0, 0] ∧ win1_7.index t = ![0, 0]
    ∧ win1_8.index t = ![t.val, 0, 0] ∧ win1_9.index t = ![0, 0] ∧ win1_10.index t = ![0, 0] :=
  (by decide +kernel : ∀ t : Fin grid1.N, _)

/-- A point's block of the input, read from the whole array. -/
theorem blk0_at (t : Fin cfg1.N) (k : Fin 32) (j : Fin 8192) :
    (Stage2.blk V c 0 t : Vec Ideal S1x32x8192 .f32) (ix3 0 k j) = (V c main_arg0 : Vec Ideal S32x32x8192 .f32) (ix3 ⟨t.val, t.isLt⟩ k j) := by
  blk_point [Stage2.blk, idx t]
/-- A point's block of the first layer's convolution, read from the whole array. -/
theorem blk1_at (t : Fin cfg1.N) (k : Fin 16) (j : Fin 8192) :
    (Stage2.blk V c 1 t : Vec Ideal S1x16x8192 .f32) (ix3 0 k j) = (V c main_v33_0 : Vec Ideal S32x16x8192 .f32) (ix3 ⟨t.val, t.isLt⟩ k j) := by
  blk_point [Stage2.blk, idx t]
/-- A point's block of the factors, read from the whole array. -/
theorem blk2_at (t : Fin cfg1.N) (o : Fin 16) :
    rd (S := S16x1) (Stage2.blk V c 2 t) (ix2 o 0) = rd (S := S16x1) (V c main_v50) (ix2 o 0) := by
  blk_point [Stage2.blk, idx t]
/-- A point's block of the summands, read from the whole array. -/
theorem blk3_at (t : Fin cfg1.N) (o : Fin 16) :
    rd (S := S16x1) (Stage2.blk V c 3 t) (ix2 o 0) = rd (S := S16x1) (V c main_v51) (ix2 o 0) := by
  blk_point [Stage2.blk, idx t]
/-- A point's block of the residual's weights, read from the whole array. -/
theorem blk4_at (t : Fin cfg1.N) (o : Fin 16) (k : Fin 2) :
    rd (S := S16x2) (Stage2.blk V c 4 t) (ix2 o k) = rd (S := S16x2) (V c main_v31) (ix2 o k) := by
  blk_point [Stage2.blk, idx t]
/-- A point's block of the residual's bias, read from the whole array. -/
theorem blk5_at (t : Fin cfg1.N) (o : Fin 16) :
    rd (S := S16x1) (Stage2.blk V c 5 t) (ix2 o 0) = rd (S := S16x1) (V c main_v52) (ix2 o 0) := by
  blk_point [Stage2.blk, idx t]
/-- A point's block of the weights, read from the whole array. -/
theorem blk6_at (t : Fin cfg1.N) (d : Fin 3) (o k : Fin 16) :
    rd (S := S3x16x16) (Stage2.blk V c 6 t) (ix3 d o k) = rd (S := S3x16x16) (V c main_v30) (ix3 d o k) := by
  blk_point [Stage2.blk, idx t]
/-- A point's block of the bias, read from the whole array. -/
theorem blk7_at (t : Fin cfg1.N) (o : Fin 16) :
    rd (S := S16x1) (Stage2.blk V c 7 t) (ix2 o 0) = rd (S := S16x1) (V c main_v53) (ix2 o 0) := by
  blk_point [Stage2.blk, idx t]

variable (X : Fin 32 → Fin 32 → Fin 8192 → EReal) (Y : Fin 32 → Fin 16 → Fin 8192 → EReal) (SC SH : Fin 16 → EReal) (WR : Fin 16 → Fin 2 → EReal)
  (BR : Fin 16 → EReal) (W : Fin 16 → Fin 16 → Fin 3 → EReal) (B : Fin 16 → EReal)

/-- The second layer before its normalisation, at a batch. -/
def second (b : Fin 32) (o : Fin 16) (t : Fin 8192) : EReal :=
  Spec.conv W B (fun o t => (∑ v, layer (X b) (Y b) SC SH WR BR v o t) * sixteenth) o t

variable (hX : ∀ b k j, rd (S := S32x32x8192) (V c main_arg0) (ix3 b k j) = X b k j)
  (hY : ∀ b k j, rd (S := S32x16x8192) (V c main_v33_0) (ix3 b k j) = Y b k j)
  (hSC : ∀ o, rd (S := S16x1) (V c main_v50) (ix2 o 0) = SC o)
  (hSH : ∀ o, rd (S := S16x1) (V c main_v51) (ix2 o 0) = SH o)
  (hWR : ∀ o k, rd (S := S16x2) (V c main_v31) (ix2 o k) = WR o k)
  (hBR : ∀ o, rd (S := S16x1) (V c main_v52) (ix2 o 0) = BR o)
  (hW : ∀ d o k, rd (S := S3x16x16) (V c main_v30) (ix3 d o k) = W o k d)
  (hB : ∀ o, rd (S := S16x1) (V c main_v53) (ix2 o 0) = B o)
include hX hY hSC hSH hWR hBR hW hB

/-- The running row sums after point `n` are the sums over the first `n + 1` batches. -/
theorem sums_at : ∀ (n : ℕ) (hn : n < 32) (o : Fin 16) (l : Fin 128),
    rd (S := S16x128) (Stage2.sums V c n hn) (ix2 o l)
      = (∑ b : Fin (n + 1), ∑ t, second X Y SC SH WR BR W B ⟨b, by omega⟩ o t : EReal)
  | 0, hn, o, l => by
    rw [Fin.sum_univ_one]
    exact rowSum_at _ _ _ _ _ _ (X 0) (Y 0) SC SH WR BR
      (fun k j => (blk0_at V c _ k j).trans (hX _ k j)) (fun k j => (blk1_at V c _ k j).trans (hY _ k j)) (fun o => (blk2_at V c _ o).trans (hSC o))
      (fun o => (blk3_at V c _ o).trans (hSH o)) (fun o k => (blk4_at V c _ o k).trans (hWR o k)) (fun o => (blk5_at V c _ o).trans (hBR o)) _ _ W B
      (fun d o k => (blk6_at V c _ d o k).trans (hW d o k)) (fun o => (blk7_at V c _ o).trans (hB o)) o l
  | n + 1, hn, o, l => by
    rw [Fin.sum_univ_castSucc]
    refine (add_at _ _ o l).trans (congrArg₂ (· + ·) (sums_at n (by omega) o l) ?_)
    exact rowSum_at _ _ _ _ _ _ (X ⟨n + 1, hn⟩) (Y ⟨n + 1, hn⟩) SC SH WR BR
      (fun k j => (blk0_at V c _ k j).trans (hX _ k j)) (fun k j => (blk1_at V c _ k j).trans (hY _ k j)) (fun o => (blk2_at V c _ o).trans (hSC o))
      (fun o => (blk3_at V c _ o).trans (hSH o)) (fun o k => (blk4_at V c _ o k).trans (hWR o k)) (fun o => (blk5_at V c _ o).trans (hBR o)) _ _ W B
      (fun d o k => (blk6_at V c _ d o k).trans (hW d o k)) (fun o => (blk7_at V c _ o).trans (hB o)) o l

/-- The running row sums of the squares after point `n`. -/
theorem sqs_at : ∀ (n : ℕ) (hn : n < 32) (o : Fin 16) (l : Fin 128),
    rd (S := S16x128) (Stage2.sqs V c n hn) (ix2 o l)
      = (∑ b : Fin (n + 1), ∑ t, second X Y SC SH WR BR W B ⟨b, by omega⟩ o t * second X Y SC SH WR BR W B ⟨b, by omega⟩ o t : EReal)
  | 0, hn, o, l => by
    rw [Fin.sum_univ_one]
    exact rowSq_at _ _ _ _ _ _ (X 0) (Y 0) SC SH WR BR
      (fun k j => (blk0_at V c _ k j).trans (hX _ k j)) (fun k j => (blk1_at V c _ k j).trans (hY _ k j)) (fun o => (blk2_at V c _ o).trans (hSC o))
      (fun o => (blk3_at V c _ o).trans (hSH o)) (fun o k => (blk4_at V c _ o k).trans (hWR o k)) (fun o => (blk5_at V c _ o).trans (hBR o)) _ _ W B
      (fun d o k => (blk6_at V c _ d o k).trans (hW d o k)) (fun o => (blk7_at V c _ o).trans (hB o)) o l
  | n + 1, hn, o, l => by
    rw [Fin.sum_univ_castSucc]
    refine (addSq_at _ _ o l).trans (congrArg₂ (· + ·) (sqs_at n (by omega) o l) ?_)
    exact rowSq_at _ _ _ _ _ _ (X ⟨n + 1, hn⟩) (Y ⟨n + 1, hn⟩) SC SH WR BR
      (fun k j => (blk0_at V c _ k j).trans (hX _ k j)) (fun k j => (blk1_at V c _ k j).trans (hY _ k j)) (fun o => (blk2_at V c _ o).trans (hSC o))
      (fun o => (blk3_at V c _ o).trans (hSH o)) (fun o k => (blk4_at V c _ o k).trans (hWR o k)) (fun o => (blk5_at V c _ o).trans (hBR o)) _ _ W B
      (fun d o k => (blk6_at V c _ d o k).trans (hW d o k)) (fun o => (blk7_at V c _ o).trans (hB o)) o l

/-- The convolution block at a point. -/
theorem after8_at (t : Fin cfg1.N) (o : Fin 16) (j : Fin 8192) :
    rd (S := S1x16x8192) (Stage2.block (Stage2.blk V c 0 t) (Stage2.blk V c 1 t) (Stage2.blk V c 2 t) (Stage2.blk V c 3 t) (Stage2.blk V c 4 t) (Stage2.blk V c 5 t) (Stage2.blk V c 6 t) (Stage2.blk V c 7 t)) (ix3 0 o j)
      = (second X Y SC SH WR BR W B ⟨t.val, t.isLt⟩ o j : EReal) :=
  block_at _ _ _ _ _ _ (X ⟨t.val, t.isLt⟩) (Y ⟨t.val, t.isLt⟩) SC SH WR BR
      (fun k j => (blk0_at V c _ k j).trans (hX _ k j)) (fun k j => (blk1_at V c _ k j).trans (hY _ k j)) (fun o => (blk2_at V c _ o).trans (hSC o))
      (fun o => (blk3_at V c _ o).trans (hSH o)) (fun o k => (blk4_at V c _ o k).trans (hWR o k)) (fun o => (blk5_at V c _ o).trans (hBR o)) _ _ W B
      (fun d o k => (blk6_at V c _ d o k).trans (hW d o k)) (fun o => (blk7_at V c _ o).trans (hB o)) o j

/-- The first result of the region, whole. -/
theorem out0 : (Stage2.dat V c).arrAt 8 cfg1.N
    = fun i : S32x16x8192.Idx => (second X Y SC SH WR BR W B (i 0) (i 1) (i 2) : EReal) := by
  refine (Stage2.dat V c).arrAt_eq_of_covers 8 _ (by decide +kernel) fun t hf y => ?_
  blk_simp [idx t]
  rw [Stage2.after_8]
  have e : y = ix3 (n0 := 1) (n1 := 16) (n2 := 8192) 0 (y 1) (y 2) := by
    funext a; match a with | 0 => exact Subsingleton.elim (α := Fin 1) _ _ | 1 => rfl | 2 => rfl
  refine (congrArg (rd (S := S1x16x8192) (Stage2.block (Stage2.blk V c 0 t) (Stage2.blk V c 1 t) (Stage2.blk V c 2 t) (Stage2.blk V c 3 t) (Stage2.blk V c 4 t) (Stage2.blk V c 5 t) (Stage2.blk V c 6 t) (Stage2.blk V c 7 t))) e).trans
    ((after8_at V c X Y SC SH WR BR W B hX hY hSC hSH hWR hBR hW hB t (y 1) (y 2)).trans ?_)
  have e0 : (win1_8.blk t).view.emb y 0 = (⟨t.val, t.isLt⟩ : Fin 32) := Fin.ext (by blk_simp [idx t])
  have e1 : (win1_8.blk t).view.emb y 1 = (y 1 : Fin 16) := Fin.ext (by blk_simp [idx t])
  have e2 : (win1_8.blk t).view.emb y 2 = (y 2 : Fin 8192) := Fin.ext (by blk_simp [idx t])
  rw [e0, e1, e2]

/-- The second: the sums over all batches, in every lane. -/
theorem out1 : (Stage2.dat V c).arrAt 9 cfg1.N
    = fun i : S16x128.Idx => (∑ b, ∑ t, second X Y SC SH WR BR W B b (i 0) t : EReal) := by
  refine (Stage2.dat V c).arrAt_eq_of_after_last 9 ⟨31, by decide⟩ (by decide +kernel) _ fun j => ?_
  rw [Stage2.after_9]
  blk_simp
  refine Eq.trans ?_ (sums_at V c X Y SC SH WR BR W B hX hY hSC hSH hWR hBR hW hB 31 (by decide) (j 0) (j 1))
  exact congrArg (rd (S := S16x128) (Stage2.sums V c 31 (by decide))) (eq_ix2 j)

/-- The third: the sums of the squares. -/
theorem out2 : (Stage2.dat V c).arrAt 10 cfg1.N
    = fun i : S16x128.Idx =>
        (∑ b, ∑ t, second X Y SC SH WR BR W B b (i 0) t * second X Y SC SH WR BR W B b (i 0) t : EReal) := by
  refine (Stage2.dat V c).arrAt_eq_of_after_last 10 ⟨31, by decide⟩ (by decide +kernel) _ fun j => ?_
  rw [Stage2.after_10]
  blk_simp
  refine Eq.trans ?_ (sqs_at V c X Y SC SH WR BR W B hX hY hSC hSH hWR hBR hW hB 31 (by decide) (j 0) (j 1))
  exact congrArg (rd (S := S16x128) (Stage2.sqs V c 31 (by decide))) (eq_ix2 j)
end Region

end Cert.KernelIdeal.Value2
-- ==== Proof.Value.Stage3.lean ====
/- The third pallas_call over the extended reals: its result is the second layer. -/
module

public import proofs.«01_k».proof.Proof.KernelIdeal.Stage3
public import proofs.«01_k».proof.Proof.Value.Stage2

@[expose] public section

set_option maxRecDepth 16384

noncomputable section

namespace Cert.KernelIdeal.Value3

open Cert.KernelIdeal Cert.KernelIdeal.Gen Cert.Spec Cert.KernelIdeal.Value1 Cert.KernelIdeal.Value2
open Idealize.ShloMosaic Idealize.ShloMosaic.TcCoe
open scoped BigOperators

section Layer
variable (x : Vec Ideal S1x32x8192 .f32) (y z : Vec Ideal S1x16x8192 .f32) (sc sh tc th : Vec Ideal S16x1 .f32) (wr : Vec Ideal S16x2 .f32) (br : Vec Ideal S16x1 .f32)

/-- The input block without its unit axis. -/
theorem inp_at (k : Fin 32) (t : Fin 8192) : Stage3.inp x (ix2 k t) = x (ix3 0 k t) := by
  unfold Stage3.inp
  pointwise [k2_pay2]
/-- The normalised first layer, elementwise. -/
theorem aff_at (o : Fin 16) (t : Fin 8192) : Stage3.aff y sc sh (ix2 o t) = sc (ix2 o 0) * y (ix3 0 o t) + sh (ix2 o 0) := by
  unfold Stage3.aff
  pointwise [k2_pay3]
/-- The normalised second layer, elementwise. -/
theorem aff2_at (o : Fin 16) (t : Fin 8192) : Stage3.aff2 z tc th (ix2 o t) = tc (ix2 o 0) * z (ix3 0 o t) + th (ix2 o 0) := by
  unfold Stage3.aff2
  pointwise [k2_pay4]

variable (X : Fin 32 → Fin 8192 → EReal) (Y Z : Fin 16 → Fin 8192 → EReal) (SC SH TC TH : Fin 16 → EReal) (WR : Fin 16 → Fin 2 → EReal) (BR : Fin 16 → EReal)

/-- The rectified second layer at a position. -/
def last (v o : Fin 16) (t : Fin 8192) : EReal := max (TC o * Z o t + TH o + layer X Y SC SH WR BR v o t) 0

/-- A tile whose entries are the values at row `v` agrees with the whole function on the rows it names. -/
theorem tile_of (G : Fin 16 → Fin 16 → Fin 8192 → EReal) (v : Fin 16) (P : Vec Ideal S1x16x1x8192 .f32)
    (hb : ∀ a, (![0, 0, v.val, 0] : Fin 4 → Nat) a + S1x16x1x8192.size a ≤ S1x16x16x8192.size a)
    (h : ∀ o t, P (ix4 0 o 0 t) = G v o t) (j : S1x16x1x8192.Idx) :
    P j = (fun i : S1x16x16x8192.Idx => (G (i 2) (i 1) (i 3) : EReal))
      ((Rect.unit (s := S1x16x16x8192) ![0, 0, v.val, 0] S1x16x1x8192.size hb).emb j) := by
  obtain ⟨a, o, b, t, rfl⟩ : ∃ (a : Fin 1) (o : Fin 16) (b : Fin 1) (t : Fin 8192), j = ix4 a o b t := ⟨j 0, j 1, j 2, j 3, by
    funext a; match a with | 0 => rfl | 1 => rfl | 2 => rfl | 3 => rfl⟩
  obtain rfl : b = 0 := Subsingleton.elim _ _
  obtain rfl : a = 0 := Subsingleton.elim _ _
  rw [h]
  have e : (Rect.unit (s := S1x16x16x8192) ![0, 0, v.val, 0] S1x16x1x8192.size hb).emb (ix4 0 o 0 t) = ix4 0 o v t := by
    funext a
    match a with
    | 0 => exact Fin.ext (by simp [Rect.emb, Rect.unit])
    | 1 => exact Fin.ext (by simp [Rect.emb, Rect.unit])
    | 2 => exact Fin.ext (by simp [Rect.emb, Rect.unit])
    | 3 => exact Fin.ext (by simp [Rect.emb, Rect.unit])
  rw [e]
  rfl

variable (hx : ∀ c k, x (ix3 0 c k) = X c k) (hy : ∀ o k, y (ix3 0 o k) = Y o k) (hz : ∀ o k, z (ix3 0 o k) = Z o k)
  (hsc : ∀ o, sc (ix2 o 0) = SC o) (hsh : ∀ o, sh (ix2 o 0) = SH o)
  (htc : ∀ o, tc (ix2 o 0) = TC o) (hth : ∀ o, th (ix2 o 0) = TH o)
  (hwr : ∀ o c, wr (ix2 o c) = WR o c) (hbr : ∀ o, br (ix2 o 0) = BR o)
include hx hy hz hsc hsh htc hth hwr hbr

/-- The output block holds, at each position, the rectified second layer. -/
theorem block_at (i : S1x16x16x8192.Idx) : Stage3.block x y z sc sh tc th wr br i
    = (last X Y Z SC SH TC TH WR BR (i 2) (i 1) (i 3) : EReal) := by
  unfold Stage3.block
  refine View.canon_apply_of_pieces (fun i : S1x16x16x8192.Idx => (last X Y Z SC SH TC TH WR BR (i 2) (i 1) (i 3) : EReal)) _ ?_ i
    (Stage3.pieces_cover x y z sc sh tc th wr br i)
  unfold Stage3.pieces
  simp only [List.forall_mem_cons, List.not_mem_nil, false_imp_iff, forall_const, and_true]
  refine ⟨tile_of _ 15 _ _ ?_, tile_of _ 14 _ _ ?_, tile_of _ 13 _ _ ?_, tile_of _ 12 _ _ ?_, tile_of _ 11 _ _ ?_,
    tile_of _ 10 _ _ ?_, tile_of _ 9 _ _ ?_, tile_of _ 8 _ _ ?_, tile_of _ 7 _ _ ?_, tile_of _ 6 _ _ ?_, tile_of _ 5 _ _ ?_,
    tile_of _ 4 _ _ ?_, tile_of _ 3 _ _ ?_, tile_of _ 2 _ _ ?_, tile_of _ 1 _ _ ?_, tile_of _ 0 _ _ ?_, fun _ => trivial⟩
  all_goals
    intro o t
    open_payloads
    pointwise
    simp only [inp_at, aff_at, aff2_at, hx, hy, hz, hsc, hsh, htc, hth, hwr, hbr]
    rfl
end Layer

section Region
variable (V : (c : Dev nD) → (b : Ref sig .tc) → Buf (Elt Ideal) ((c : Thread nD τ).loc b)) (c : Dev nD)

/-- The block each window shows at a point. -/
theorem idx : ∀ t : Fin cfg2.N, win2_0.index t = ![t.val, 0, 0] ∧ win2_1.index t = ![t.val, 0, 0] ∧ win2_2.index t = ![t.val, 0, 0]
    ∧ win2_3.index t = ![0, 0] ∧ win2_4.index t = ![0, 0] ∧ win2_5.index t = ![0, 0] ∧ win2_6.index t = ![0, 0] ∧ win2_7.index t = ![0, 0]
    ∧ win2_8.index t = ![0, 0] ∧ win2_9.index t = ![t.val, 0, 0, 0] :=
  (by decide +kernel : ∀ t : Fin grid2.N, _)

/-- A point's block of the input, read from the whole array. -/
theorem blk0_at (t : Fin cfg2.N) (k : Fin 32) (j : Fin 8192) :
    (Stage3.blk V c 0 t : Vec Ideal S1x32x8192 .f32) (ix3 0 k j) = (V c main_arg0 : Vec Ideal S32x32x8192 .f32) (ix3 ⟨t.val, t.isLt⟩ k j) := by
  blk_point [Stage3.blk, idx t]
/-- A point's block of the first layer's convolution, read from the whole array. -/
theorem blk1_at (t : Fin cfg2.N) (k : Fin 16) (j : Fin 8192) :
    (Stage3.blk V c 1 t : Vec Ideal S1x16x8192 .f32) (ix3 0 k j) = (V c main_v33_0 : Vec Ideal S32x16x8192 .f32) (ix3 ⟨t.val, t.isLt⟩ k j) := by
  blk_point [Stage3.blk, idx t]
/-- A point's block of the second layer's convolution, read from the whole array. -/
theorem blk2_at (t : Fin cfg2.N) (k : Fin 16) (j : Fin 8192) :
    (Stage3.blk V c 2 t : Vec Ideal S1x16x8192 .f32) (ix3 0 k j) = (V c main_v54_0 : Vec Ideal S32x16x8192 .f32) (ix3 ⟨t.val, t.isLt⟩ k j) := by
  blk_point [Stage3.blk, idx t]
/-- A point's block of the first layer's factors, read from the whole array. -/
theorem blk3_at (t : Fin cfg2.N) (o : Fin 16) :
    rd (S := S16x1) (Stage3.blk V c 3 t) (ix2 o 0) = rd (S := S16x1) (V c main_v71) (ix2 o 0) := by
  blk_point [Stage3.blk, idx t]
/-- A point's block of the first layer's summands, read from the whole array. -/
theorem blk4_at (t : Fin cfg2.N) (o : Fin 16) :
    rd (S := S16x1) (Stage3.blk V c 4 t) (ix2 o 0) = rd (S := S16x1) (V c main_v72) (ix2 o 0) := by
  blk_point [Stage3.blk, idx t]
/-- A point's block of the second layer's factors, read from the whole array. -/
theorem blk5_at (t : Fin cfg2.N) (o : Fin 16) :
    rd (S := S16x1) (Stage3.blk V c 5 t) (ix2 o 0) = rd (S := S16x1) (V c main_v73) (ix2 o 0) := by
  blk_point [Stage3.blk, idx t]
/-- A point's block of the second layer's summands, read from the whole array. -/
theorem blk6_at (t : Fin cfg2.N) (o : Fin 16) :
    rd (S := S16x1) (Stage3.blk V c 6 t) (ix2 o 0) = rd (S := S16x1) (V c main_v74) (ix2 o 0) := by
  blk_point [Stage3.blk, idx t]
/-- A point's block of the residual's weights, read from the whole array. -/
theorem blk7_at (t : Fin cfg2.N) (o : Fin 16) (k : Fin 2) :
    rd (S := S16x2) (Stage3.blk V c 7 t) (ix2 o k) = rd (S := S16x2) (V c main_v31) (ix2 o k) := by
  blk_point [Stage3.blk, idx t]
/-- A point's block of the residual's bias, read from the whole array. -/
theorem blk8_at (t : Fin cfg2.N) (o : Fin 16) :
    rd (S := S16x1) (Stage3.blk V c 8 t) (ix2 o 0) = rd (S := S16x1) (V c main_v75) (ix2 o 0) := by
  blk_point [Stage3.blk, idx t]

variable (X : Fin 32 → Fin 32 → Fin 8192 → EReal) (Y Z : Fin 32 → Fin 16 → Fin 8192 → EReal) (SC SH TC TH : Fin 16 → EReal) (WR : Fin 16 → Fin 2 → EReal)
  (BR : Fin 16 → EReal)

variable (hX : ∀ b k j, rd (S := S32x32x8192) (V c main_arg0) (ix3 b k j) = X b k j)
  (hY : ∀ b k j, rd (S := S32x16x8192) (V c main_v33_0) (ix3 b k j) = Y b k j)
  (hZ : ∀ b k j, rd (S := S32x16x8192) (V c main_v54_0) (ix3 b k j) = Z b k j)
  (hSC : ∀ o, rd (S := S16x1) (V c main_v71) (ix2 o 0) = SC o)
  (hSH : ∀ o, rd (S := S16x1) (V c main_v72) (ix2 o 0) = SH o)
  (hTC : ∀ o, rd (S := S16x1) (V c main_v73) (ix2 o 0) = TC o)
  (hTH : ∀ o, rd (S := S16x1) (V c main_v74) (ix2 o 0) = TH o)
  (hWR : ∀ o k, rd (S := S16x2) (V c main_v31) (ix2 o k) = WR o k)
  (hBR : ∀ o, rd (S := S16x1) (V c main_v75) (ix2 o 0) = BR o)
include hX hY hZ hSC hSH hTC hTH hWR hBR

/-- The output block at a point. -/
theorem after9_at (t : Fin cfg2.N) (i : S1x16x16x8192.Idx) :
    rd (S := S1x16x16x8192) (Stage3.block (Stage3.blk V c 0 t) (Stage3.blk V c 1 t) (Stage3.blk V c 2 t) (Stage3.blk V c 3 t) (Stage3.blk V c 4 t) (Stage3.blk V c 5 t) (Stage3.blk V c 6 t) (Stage3.blk V c 7 t) (Stage3.blk V c 8 t)) i
      = (last (X ⟨t.val, t.isLt⟩) (Y ⟨t.val, t.isLt⟩) (Z ⟨t.val, t.isLt⟩) SC SH TC TH WR BR (i 2) (i 1) (i 3) : EReal) :=
  block_at _ _ _ _ _ _ _ _ _ (X ⟨t.val, t.isLt⟩) (Y ⟨t.val, t.isLt⟩) (Z ⟨t.val, t.isLt⟩) SC SH TC TH WR BR
      (fun k j => (blk0_at V c _ k j).trans (hX _ k j)) (fun k j => (blk1_at V c _ k j).trans (hY _ k j)) (fun k j => (blk2_at V c _ k j).trans (hZ _ k j))
      (fun o => (blk3_at V c _ o).trans (hSC o)) (fun o => (blk4_at V c _ o).trans (hSH o)) (fun o => (blk5_at V c _ o).trans (hTC o))
      (fun o => (blk6_at V c _ o).trans (hTH o)) (fun o k => (blk7_at V c _ o k).trans (hWR o k)) (fun o => (blk8_at V c _ o).trans (hBR o)) i

/-- The region's result, whole. -/
theorem out : (Stage3.dat V c).arrAt 9 cfg2.N
    = fun i : S32x16x16x8192.Idx => (last (X (i 0)) (Y (i 0)) (Z (i 0)) SC SH TC TH WR BR (i 2) (i 1) (i 3) : EReal) := by
  refine (Stage3.dat V c).arrAt_eq_of_covers 9 _ (by decide +kernel) fun t hf y => ?_
  blk_simp [idx t]
  rw [Stage3.after_9]
  refine (after9_at V c X Y Z SC SH TC TH WR BR hX hY hZ hSC hSH hTC hTH hWR hBR t y).trans ?_
  have e0 : (win2_9.blk t).view.emb y 0 = (⟨t.val, t.isLt⟩ : Fin 32) := Fin.ext (by blk_simp [idx t])
  have e1 : (win2_9.blk t).view.emb y 1 = (y 1 : Fin 16) := Fin.ext (by blk_simp [idx t])
  have e2 : (win2_9.blk t).view.emb y 2 = (y 2 : Fin 16) := Fin.ext (by blk_simp [idx t])
  have e3 : (win2_9.blk t).view.emb y 3 = (y 3 : Fin 8192) := Fin.ext (by blk_simp [idx t])
  rw [e0, e1, e2, e3]
end Region

end Cert.KernelIdeal.Value3
-- ==== Proof.Value.Host.lean ====
/- The host stretches between the pallas_calls over the extended reals: what they compute. -/
module

public import proofs.«01_k».proof.Proof.KernelIdeal.Run
public import proofs.«01_k».proof.Proof.Value.Stage3

@[expose] public section

set_option maxRecDepth 16384

noncomputable section

namespace Cert.KernelIdeal.ValueHost

open Cert.KernelIdeal Cert.KernelIdeal.Gen Cert.Spec Cert.KernelIdeal.Value1
open Idealize.ShloMosaic Idealize.ShloMosaic.TcCoe
open scoped BigOperators

variable (U : Valuation τ sig (Elt Ideal))

/-- The residual's weights, without their unit axes. -/
theorem v31_at (W : Fin 16 → Fin 2 → EReal) (hW : ∀ o k, rd (S := S16x2x1x1) (U (Proc.devRef .tc main_arg6)) (ix4 o k 0 0) = W o k) (o : Fin 16) (k : Fin 2) :
    rd (S := S16x2) (StableHlo.after hostOps0 U (Proc.devRef .tc main_v31)) (ix2 o k) = W o k := by
  unfold rd
  simp only [hostOps0]
  after_results_simp
  pointwise
  exact hW o k

/-- The first layer's bias, as a column. -/
theorem v32_at (W : Fin 16 → EReal) (hW : ∀ o, rd (S := S16) (U (Proc.devRef .tc main_arg3)) (ix1 o) = W o) (o : Fin 16) :
    rd (S := S16x1) (StableHlo.after hostOps0 U (Proc.devRef .tc main_v32)) (ix2 o 0) = W o := by
  unfold rd
  simp only [hostOps0]
  after_results_simp
  pointwise
  exact hW o

/-- The first layer's weights, per tap: tiled over the positions and divided by their number. -/
theorem v20_at (W : Fin 16 → Fin 2 → Fin 3 → EReal) (hW : ∀ o c d, rd (S := S16x2x3x1) (U (Proc.devRef .tc main_arg2)) (ix4 o c d 0) = W o c d)
    (d : Fin 3) (o : Fin 16) (k : Fin 32) :
    rd (S := S3x16x32) (StableHlo.after hostOps0 U (Proc.devRef .tc main_v20)) (ix3 d o k) = tiled W o k d := by
  unfold rd
  simp only [hostOps0]
  after_results_simp
  pointwise
  after_results_simp
  pointwise
  have h : ∀ d', (U (Proc.devRef .tc main_arg2) : Vec Ideal S16x2x3x1 .f32) (ix4 o ⟨(k : ℕ) % 2, Nat.mod_lt _ (by decide)⟩ d' 0)
      = (W o ⟨(k : ℕ) % 2, Nat.mod_lt _ (by decide)⟩ d' : EReal) := fun d' => hW _ _ _
  have h16 : ∀ a : EReal, Ideal.div a (Ideal.ofBits .f32 0x41800000#32) = a * sixteenth := fun a => by
    rw [ofBits_sixteen, Ideal.div_coe (by norm_num)]; rfl
  match d with
  | 0 => exact (congrArg (fun a => Ideal.div a _) (h 0)).trans (h16 _)
  | 1 => exact (congrArg (fun a => Ideal.div a _) (h 1)).trans (h16 _)
  | 2 => exact (congrArg (fun a => Ideal.div a _) (h 2)).trans (h16 _)

/-- The second layer's weights, per tap. -/
theorem v30_at (W : Fin 16 → Fin 16 → Fin 3 → EReal) (hW : ∀ o c d, rd (S := S16x16x3x1) (U (Proc.devRef .tc main_arg8)) (ix4 o c d 0) = W o c d)
    (d : Fin 3) (o k : Fin 16) :
    rd (S := S3x16x16) (StableHlo.after hostOps0 U (Proc.devRef .tc main_v30)) (ix3 d o k) = W o k d := by
  unfold rd
  simp only [hostOps0]
  after_results_simp
  pointwise
  after_results_simp
  pointwise
  match d with
  | 0 => exact hW o k 0
  | 1 => exact hW o k 1
  | 2 => exact hW o k 2

/-- The factor of the normalisation, from the sums and the sums of the squares. -/
theorem scale_of (y : Fin 32 → Fin 8192 → EReal) (g : EReal) {s q gg : EReal} (hs : s = ∑ b, ∑ t, y b t) (hq : q = ∑ b, ∑ t, y b t * y b t) (hg : gg = g) :
    Ideal.div gg (Ideal.sqrt (Ideal.div q (Ideal.ofBits .f32 0x48800000#32)
        - Ideal.div s (Ideal.ofBits .f32 0x48800000#32) * Ideal.div s (Ideal.ofBits .f32 0x48800000#32) + Ideal.ofBits .f32 0x3727C5AC#32))
      = scale y g := by
  rw [hs, hq, hg, ofBits_count, ofBits_eps]; rfl
/-- The summand of the normalisation. -/
theorem shift_of (y : Fin 32 → Fin 8192 → EReal) (g be : EReal) {s q gg bb : EReal} (hs : s = ∑ b, ∑ t, y b t) (hq : q = ∑ b, ∑ t, y b t * y b t) (hg : gg = g)
    (hb : bb = be) :
    bb - Ideal.div s (Ideal.ofBits .f32 0x48800000#32) * Ideal.div gg (Ideal.sqrt (Ideal.div q (Ideal.ofBits .f32 0x48800000#32)
        - Ideal.div s (Ideal.ofBits .f32 0x48800000#32) * Ideal.div s (Ideal.ofBits .f32 0x48800000#32) + Ideal.ofBits .f32 0x3727C5AC#32))
      = shift y g be := by
  rw [scale_of y g hs hq hg, hs, hb, ofBits_count]; rfl

section One
variable (y : Fin 16 → Fin 32 → Fin 8192 → EReal) (g be : Fin 16 → EReal)
  (hs : ∀ o, rd (S := S16x128) (U (Proc.devRef .tc main_v33_1)) (ix2 o 0) = (∑ b, ∑ t, y o b t : EReal))
  (hq : ∀ o, rd (S := S16x128) (U (Proc.devRef .tc main_v33_2)) (ix2 o 0) = (∑ b, ∑ t, y o b t * y o b t : EReal))
  (hg : ∀ o, rd (S := S16) (U (Proc.devRef .tc main_arg4)) (ix1 o) = g o)
  (hbe : ∀ o, rd (S := S16) (U (Proc.devRef .tc main_arg5)) (ix1 o) = be o)
include hs hq hg

/-- The first layer's factor, as a vector and as a column, -/
theorem v47_at (o : Fin 16) : rd (S := S16) (StableHlo.after hostOps1 U (Proc.devRef .tc main_v47)) (ix1 o) = (scale (y o) (g o) : EReal) := by
  unfold rd
  simp only [hostOps1]
  after_results_simp
  pointwise
  exact scale_of (y o) (g o) (hs o) (hq o) (hg o)
/-- The first layer's factor, as a column. -/
theorem v50_at (o : Fin 16) : rd (S := S16x1) (StableHlo.after hostOps1 U (Proc.devRef .tc main_v50)) (ix2 o 0) = (scale (y o) (g o) : EReal) := by
  unfold rd
  simp only [hostOps1]
  after_results_simp
  pointwise
  exact scale_of (y o) (g o) (hs o) (hq o) (hg o)
include hbe
/-- and its summand. -/
theorem v49_at (o : Fin 16) : rd (S := S16) (StableHlo.after hostOps1 U (Proc.devRef .tc main_v49)) (ix1 o) = (shift (y o) (g o) (be o) : EReal) := by
  unfold rd
  simp only [hostOps1]
  after_results_simp
  pointwise
  exact shift_of (y o) (g o) (be o) (hs o) (hq o) (hg o) (hbe o)
/-- The first layer's summand, as a column. -/
theorem v51_at (o : Fin 16) : rd (S := S16x1) (StableHlo.after hostOps1 U (Proc.devRef .tc main_v51)) (ix2 o 0) = (shift (y o) (g o) (be o) : EReal) := by
  unfold rd
  simp only [hostOps1]
  after_results_simp
  pointwise
  exact shift_of (y o) (g o) (be o) (hs o) (hq o) (hg o) (hbe o)
end One

/-- The residual's bias and the second layer's, as columns. -/
theorem v52_at (o : Fin 16) : rd (S := S16x1) (StableHlo.after hostOps1 U (Proc.devRef .tc main_v52)) (ix2 o 0) = rd (S := S16) (U (Proc.devRef .tc main_arg7)) (ix1 o) := by
  unfold rd
  simp only [hostOps1]
  after_results_simp
  pointwise
/-- The second layer's bias, as a column. -/
theorem v53_at (o : Fin 16) : rd (S := S16x1) (StableHlo.after hostOps1 U (Proc.devRef .tc main_v53)) (ix2 o 0) = rd (S := S16) (U (Proc.devRef .tc main_arg9)) (ix1 o) := by
  unfold rd
  simp only [hostOps1]
  after_results_simp
  pointwise

section Two
variable (y : Fin 16 → Fin 32 → Fin 8192 → EReal) (g be : Fin 16 → EReal)
  (hs : ∀ o, rd (S := S16x128) (U (Proc.devRef .tc main_v54_1)) (ix2 o 0) = (∑ b, ∑ t, y o b t : EReal))
  (hq : ∀ o, rd (S := S16x128) (U (Proc.devRef .tc main_v54_2)) (ix2 o 0) = (∑ b, ∑ t, y o b t * y o b t : EReal))
  (hg : ∀ o, rd (S := S16) (U (Proc.devRef .tc main_arg10)) (ix1 o) = g o)
  (hbe : ∀ o, rd (S := S16) (U (Proc.devRef .tc main_arg11)) (ix1 o) = be o)
include hs hq hg

/-- The second layer's factor, -/
theorem v73_at (o : Fin 16) : rd (S := S16x1) (StableHlo.after hostOps2 U (Proc.devRef .tc main_v73)) (ix2 o 0) = (scale (y o) (g o) : EReal) := by
  unfold rd
  simp only [hostOps2]
  after_results_simp
  pointwise
  exact scale_of (y o) (g o) (hs o) (hq o) (hg o)
include hbe
/-- and its summand. -/
theorem v74_at (o : Fin 16) : rd (S := S16x1) (StableHlo.after hostOps2 U (Proc.devRef .tc main_v74)) (ix2 o 0) = (shift (y o) (g o) (be o) : EReal) := by
  unfold rd
  simp only [hostOps2]
  after_results_simp
  pointwise
  exact shift_of (y o) (g o) (be o) (hs o) (hq o) (hg o) (hbe o)
end Two

/-- The first layer's factor and summand and the residual's bias, as columns again. -/
theorem v71_at (o : Fin 16) : rd (S := S16x1) (StableHlo.after hostOps2 U (Proc.devRef .tc main_v71)) (ix2 o 0) = rd (S := S16) (U (Proc.devRef .tc main_v47)) (ix1 o) := by
  unfold rd
  simp only [hostOps2]
  after_results_simp
  pointwise
/-- The first layer's summand, as a column again, -/
theorem v72_at (o : Fin 16) : rd (S := S16x1) (StableHlo.after hostOps2 U (Proc.devRef .tc main_v72)) (ix2 o 0) = rd (S := S16) (U (Proc.devRef .tc main_v49)) (ix1 o) := by
  unfold rd
  simp only [hostOps2]
  after_results_simp
  pointwise
/-- and the residual's bias. -/
theorem v75_at (o : Fin 16) : rd (S := S16x1) (StableHlo.after hostOps2 U (Proc.devRef .tc main_v75)) (ix2 o 0) = rd (S := S16) (U (Proc.devRef .tc main_arg7)) (ix1 o) := by
  unfold rd
  simp only [hostOps2]
  after_results_simp
  pointwise

/-- The result: the last pallas_call's with its two last axes exchanged. -/
theorem v77_at (b : Fin 32) (o : Fin 16) (t : Fin 8192) (v : Fin 16) :
    rd (S := S32x16x8192x16) (StableHlo.after hostOps3 U (Proc.devRef .tc main_v77)) (ix4 b o t v)
      = rd (S := S32x16x16x8192) (U (Proc.devRef .tc main_v76)) (ix4 b o v t) := by
  unfold rd
  simp only [hostOps3]
  after_results_simp
  pointwise

end Cert.KernelIdeal.ValueHost
-- ==== Proof.Value.Whole.lean ====
/- The whole kernel over the extended reals: its result is the network of `Spec`. -/
module

public import proofs.«01_k».proof.Proof.Value.Host

@[expose] public section

set_option maxRecDepth 16384

noncomputable section

namespace Cert.KernelIdeal.ValueWhole

open Cert.KernelIdeal Cert.KernelIdeal.Gen Cert.KernelIdeal.Run Cert.Spec Cert.KernelIdeal.Value1 Cert.KernelIdeal.ValueHost
open Idealize.ShloMosaic Idealize.ShloMosaic.TcCoe
open scoped BigOperators

/-- Equal arrays read alike. -/
theorem rd_congr {S : Shape} {v w : Vec Ideal S .f32} (e : v = w) (i : S.Idx) : rd v i = rd w i := congrArg (fun u => rd u i) e

variable (m : (ℓ : Loc nD τ sig) → Buf (Elt Ideal) ℓ) (ρ : Dev nD → PrngReg) (c : Dev nD)
variable (x : Fin 32 → Fin 32 → Fin 8192 → EReal) (w0 : Fin 16 → Fin 2 → Fin 3 → EReal) (b0 g0 be0 : Fin 16 → EReal)
  (wr : Fin 16 → Fin 2 → EReal) (br : Fin 16 → EReal) (w1 : Fin 16 → Fin 16 → Fin 3 → EReal) (b1 g1 be1 : Fin 16 → EReal)
variable (hx : ∀ b k j, rd (S := S32x32x8192) (m ((c : Thread nD τ).loc main_arg0)) (ix3 b k j) = x b k j)
  (hw0 : ∀ o k d, rd (S := S16x2x3x1) (m ((c : Thread nD τ).loc main_arg2)) (ix4 o k d 0) = w0 o k d)
  (hb0 : ∀ o, rd (S := S16) (m ((c : Thread nD τ).loc main_arg3)) (ix1 o) = b0 o)
  (hg0 : ∀ o, rd (S := S16) (m ((c : Thread nD τ).loc main_arg4)) (ix1 o) = g0 o)
  (hbe0 : ∀ o, rd (S := S16) (m ((c : Thread nD τ).loc main_arg5)) (ix1 o) = be0 o)
  (hwr : ∀ o k, rd (S := S16x2x1x1) (m ((c : Thread nD τ).loc main_arg6)) (ix4 o k 0 0) = wr o k)
  (hbr : ∀ o, rd (S := S16) (m ((c : Thread nD τ).loc main_arg7)) (ix1 o) = br o)
  (hw1 : ∀ o k d, rd (S := S16x16x3x1) (m ((c : Thread nD τ).loc main_arg8)) (ix4 o k d 0) = w1 o k d)
  (hb1 : ∀ o, rd (S := S16) (m ((c : Thread nD τ).loc main_arg9)) (ix1 o) = b1 o)
  (hg1 : ∀ o, rd (S := S16) (m ((c : Thread nD τ).loc main_arg10)) (ix1 o) = g1 o)
  (hbe1 : ∀ o, rd (S := S16) (m ((c : Thread nD τ).loc main_arg11)) (ix1 o) = be1 o)

section First
include hx hw0 hb0

/-- The first pallas_call's results. -/
theorem W2_v33_0 : (W2 m ρ c (Proc.devRef .tc main_v33_0) : Vec Ideal S32x16x8192 .f32)
    = fun i : S32x16x8192.Idx => (y0 x w0 b0 (i 1) (i 0) (i 2) : EReal) :=
  (W2_arr m ρ c 3).trans (Value1.out0 (V1 m ρ) c x (tiled w0) b0
    (fun b k j => (rd_congr (W1_args m ρ c main_arg0 (by simp)) _).trans (hx b k j))
    (v20_at (W0 m ρ c) w0 hw0) (v32_at (W0 m ρ c) b0 hb0))
/-- At `W2`: its sums. -/
theorem W2_v33_1 : (W2 m ρ c (Proc.devRef .tc main_v33_1) : Vec Ideal S16x128 .f32)
    = fun i : S16x128.Idx => (∑ b, ∑ t, y0 x w0 b0 (i 0) b t : EReal) :=
  (W2_arr m ρ c 4).trans (Value1.out1 (V1 m ρ) c x (tiled w0) b0
    (fun b k j => (rd_congr (W1_args m ρ c main_arg0 (by simp)) _).trans (hx b k j))
    (v20_at (W0 m ρ c) w0 hw0) (v32_at (W0 m ρ c) b0 hb0))
/-- At `W2`: the sums of its squares. -/
theorem W2_v33_2 : (W2 m ρ c (Proc.devRef .tc main_v33_2) : Vec Ideal S16x128 .f32)
    = fun i : S16x128.Idx => (∑ b, ∑ t, y0 x w0 b0 (i 0) b t * y0 x w0 b0 (i 0) b t : EReal) :=
  (W2_arr m ρ c 5).trans (Value1.out2 (V1 m ρ) c x (tiled w0) b0
    (fun b k j => (rd_congr (W1_args m ρ c main_arg0 (by simp)) _).trans (hx b k j))
    (v20_at (W0 m ρ c) w0 hw0) (v32_at (W0 m ρ c) b0 hb0))

/-- The first of them, as the second pallas_call is entered and left. -/
theorem W3_v33_0 (b : Fin 32) (k : Fin 16) (j : Fin 8192) :
    rd (S := S32x16x8192) (W3 m ρ c (Proc.devRef .tc main_v33_0)) (ix3 b k j) = y0 x w0 b0 k b j :=
  (rd_congr ((W3_of m ρ c main_v33_0 (by decide)).trans (W2_v33_0 m ρ c x w0 b0 hx hw0 hb0)) _).trans rfl
/-- At `W5`: the first layer's convolution. -/
theorem W5_v33_0 (b : Fin 32) (k : Fin 16) (j : Fin 8192) :
    rd (S := S32x16x8192) (W5 m ρ c (Proc.devRef .tc main_v33_0)) (ix3 b k j) = y0 x w0 b0 k b j :=
  (rd_congr ((W5_of m ρ c main_v33_0 (by decide)).trans (W4_of m ρ c main_v33_0 (by decide +kernel))) _).trans (W3_v33_0 m ρ c x w0 b0 hx hw0 hb0 b k j)

include hg0
/-- At `W3`: the first layer's factors. -/
theorem W3_v47 (o : Fin 16) : rd (S := S16) (W3 m ρ c (Proc.devRef .tc main_v47)) (ix1 o) = (scale (y0 x w0 b0 o) (g0 o) : EReal) :=
  v47_at (W2 m ρ c) (y0 x w0 b0) g0 (fun o => (rd_congr (W2_v33_1 m ρ c x w0 b0 hx hw0 hb0) _).trans rfl)
    (fun o => (rd_congr (W2_v33_2 m ρ c x w0 b0 hx hw0 hb0) _).trans rfl)
    (fun o => (rd_congr (W2_args m ρ c main_arg4 (by simp)) _).trans (hg0 o)) o
/-- At `W3`: the first layer's factors, as a column. -/
theorem W3_v50 (o : Fin 16) : rd (S := S16x1) (W3 m ρ c (Proc.devRef .tc main_v50)) (ix2 o 0) = (scale (y0 x w0 b0 o) (g0 o) : EReal) :=
  v50_at (W2 m ρ c) (y0 x w0 b0) g0 (fun o => (rd_congr (W2_v33_1 m ρ c x w0 b0 hx hw0 hb0) _).trans rfl)
    (fun o => (rd_congr (W2_v33_2 m ρ c x w0 b0 hx hw0 hb0) _).trans rfl)
    (fun o => (rd_congr (W2_args m ρ c main_arg4 (by simp)) _).trans (hg0 o)) o
/-- At `W5`: the first layer's factors, as a column again. -/
theorem W5_v71 (o : Fin 16) : rd (S := S16x1) (W5 m ρ c (Proc.devRef .tc main_v71)) (ix2 o 0) = (scale (y0 x w0 b0 o) (g0 o) : EReal) :=
  (v71_at (W4 m ρ c) o).trans ((rd_congr (W4_of m ρ c main_v47 (by decide +kernel)) _).trans (W3_v47 m ρ c x w0 b0 g0 hx hw0 hb0 hg0 o))
include hbe0
/-- At `W3`: the first layer's summands. -/
theorem W3_v49 (o : Fin 16) : rd (S := S16) (W3 m ρ c (Proc.devRef .tc main_v49)) (ix1 o) = (shift (y0 x w0 b0 o) (g0 o) (be0 o) : EReal) :=
  v49_at (W2 m ρ c) (y0 x w0 b0) g0 be0 (fun o => (rd_congr (W2_v33_1 m ρ c x w0 b0 hx hw0 hb0) _).trans rfl)
    (fun o => (rd_congr (W2_v33_2 m ρ c x w0 b0 hx hw0 hb0) _).trans rfl)
    (fun o => (rd_congr (W2_args m ρ c main_arg4 (by simp)) _).trans (hg0 o))
    (fun o => (rd_congr (W2_args m ρ c main_arg5 (by simp)) _).trans (hbe0 o)) o
/-- At `W3`: the first layer's summands, as a column. -/
theorem W3_v51 (o : Fin 16) : rd (S := S16x1) (W3 m ρ c (Proc.devRef .tc main_v51)) (ix2 o 0) = (shift (y0 x w0 b0 o) (g0 o) (be0 o) : EReal) :=
  v51_at (W2 m ρ c) (y0 x w0 b0) g0 be0 (fun o => (rd_congr (W2_v33_1 m ρ c x w0 b0 hx hw0 hb0) _).trans rfl)
    (fun o => (rd_congr (W2_v33_2 m ρ c x w0 b0 hx hw0 hb0) _).trans rfl)
    (fun o => (rd_congr (W2_args m ρ c main_arg4 (by simp)) _).trans (hg0 o))
    (fun o => (rd_congr (W2_args m ρ c main_arg5 (by simp)) _).trans (hbe0 o)) o
/-- At `W5`: the first layer's summands, as a column again. -/
theorem W5_v72 (o : Fin 16) : rd (S := S16x1) (W5 m ρ c (Proc.devRef .tc main_v72)) (ix2 o 0) = (shift (y0 x w0 b0 o) (g0 o) (be0 o) : EReal) :=
  (v72_at (W4 m ρ c) o).trans ((rd_congr (W4_of m ρ c main_v49 (by decide +kernel)) _).trans (W3_v49 m ρ c x w0 b0 g0 be0 hx hw0 hb0 hg0 hbe0 o))
end First

/-! The small operands of the second and third pallas_calls. -/

include hwr in
/-- At `W3`: the residual's weights. -/
theorem W3_v31 (o : Fin 16) (k : Fin 2) : rd (S := S16x2) (W3 m ρ c (Proc.devRef .tc main_v31)) (ix2 o k) = wr o k :=
  (rd_congr ((W3_of m ρ c main_v31 (by decide)).trans (W2_of m ρ c main_v31 (by decide +kernel))) _).trans (v31_at (W0 m ρ c) wr hwr o k)
include hwr in
/-- At `W5`: the residual's weights. -/
theorem W5_v31 (o : Fin 16) (k : Fin 2) : rd (S := S16x2) (W5 m ρ c (Proc.devRef .tc main_v31)) (ix2 o k) = wr o k :=
  (rd_congr ((W5_of m ρ c main_v31 (by decide)).trans (W4_of m ρ c main_v31 (by decide +kernel))) _).trans (W3_v31 m ρ c wr hwr o k)
include hw1 in
/-- At `W3`: the second layer's weights. -/
theorem W3_v30 (d : Fin 3) (o k : Fin 16) : rd (S := S3x16x16) (W3 m ρ c (Proc.devRef .tc main_v30)) (ix3 d o k) = w1 o k d :=
  (rd_congr ((W3_of m ρ c main_v30 (by decide)).trans (W2_of m ρ c main_v30 (by decide +kernel))) _).trans (v30_at (W0 m ρ c) w1 hw1 d o k)
include hbr in
/-- At `W3`: the residual's bias. -/
theorem W3_v52 (o : Fin 16) : rd (S := S16x1) (W3 m ρ c (Proc.devRef .tc main_v52)) (ix2 o 0) = br o :=
  (v52_at (W2 m ρ c) o).trans ((rd_congr (W2_args m ρ c main_arg7 (by simp)) _).trans (hbr o))
include hb1 in
/-- At `W3`: the second layer's bias. -/
theorem W3_v53 (o : Fin 16) : rd (S := S16x1) (W3 m ρ c (Proc.devRef .tc main_v53)) (ix2 o 0) = b1 o :=
  (v53_at (W2 m ρ c) o).trans ((rd_congr (W2_args m ρ c main_arg9 (by simp)) _).trans (hb1 o))
include hbr in
/-- At `W5`: the residual's bias. -/
theorem W5_v75 (o : Fin 16) : rd (S := S16x1) (W5 m ρ c (Proc.devRef .tc main_v75)) (ix2 o 0) = br o :=
  (v75_at (W4 m ρ c) o).trans ((rd_congr (W4_args m ρ c main_arg7 (by simp)) _).trans (hbr o))

section Second
include hx hw0 hb0 hg0 hbe0 hwr hbr hw1 hb1

/-- The second pallas_call's results. -/
theorem W4_v54_0 : (W4 m ρ c (Proc.devRef .tc main_v54_0) : Vec Ideal S32x16x8192 .f32)
    = fun i : S32x16x8192.Idx => (y1 x w0 b0 g0 be0 wr br w1 b1 (i 1) (i 0) (i 2) : EReal) :=
  (W4_arr m ρ c 8).trans (Value2.out0 (V3 m ρ) c x (fun b o => y0 x w0 b0 o b) (fun o => scale (y0 x w0 b0 o) (g0 o)) (fun o => shift (y0 x w0 b0 o) (g0 o) (be0 o)) wr br w1 b1
    (fun b k j => (rd_congr (W3_args m ρ c main_arg0 (by simp)) _).trans (hx b k j))
    (W3_v33_0 m ρ c x w0 b0 hx hw0 hb0) (W3_v50 m ρ c x w0 b0 g0 hx hw0 hb0 hg0) (W3_v51 m ρ c x w0 b0 g0 be0 hx hw0 hb0 hg0 hbe0)
    (W3_v31 m ρ c wr hwr) (W3_v52 m ρ c br hbr) (W3_v30 m ρ c w1 hw1) (W3_v53 m ρ c b1 hb1))
/-- At `W4`: its sums. -/
theorem W4_v54_1 : (W4 m ρ c (Proc.devRef .tc main_v54_1) : Vec Ideal S16x128 .f32)
    = fun i : S16x128.Idx => (∑ b, ∑ t, y1 x w0 b0 g0 be0 wr br w1 b1 (i 0) b t : EReal) :=
  (W4_arr m ρ c 9).trans (Value2.out1 (V3 m ρ) c x (fun b o => y0 x w0 b0 o b) (fun o => scale (y0 x w0 b0 o) (g0 o)) (fun o => shift (y0 x w0 b0 o) (g0 o) (be0 o)) wr br w1 b1
    (fun b k j => (rd_congr (W3_args m ρ c main_arg0 (by simp)) _).trans (hx b k j))
    (W3_v33_0 m ρ c x w0 b0 hx hw0 hb0) (W3_v50 m ρ c x w0 b0 g0 hx hw0 hb0 hg0) (W3_v51 m ρ c x w0 b0 g0 be0 hx hw0 hb0 hg0 hbe0)
    (W3_v31 m ρ c wr hwr) (W3_v52 m ρ c br hbr) (W3_v30 m ρ c w1 hw1) (W3_v53 m ρ c b1 hb1))
/-- At `W4`: the sums of its squares. -/
theorem W4_v54_2 : (W4 m ρ c (Proc.devRef .tc main_v54_2) : Vec Ideal S16x128 .f32)
    = fun i : S16x128.Idx => (∑ b, ∑ t, y1 x w0 b0 g0 be0 wr br w1 b1 (i 0) b t * y1 x w0 b0 g0 be0 wr br w1 b1 (i 0) b t : EReal) :=
  (W4_arr m ρ c 10).trans (Value2.out2 (V3 m ρ) c x (fun b o => y0 x w0 b0 o b) (fun o => scale (y0 x w0 b0 o) (g0 o)) (fun o => shift (y0 x w0 b0 o) (g0 o) (be0 o)) wr br w1 b1
    (fun b k j => (rd_congr (W3_args m ρ c main_arg0 (by simp)) _).trans (hx b k j))
    (W3_v33_0 m ρ c x w0 b0 hx hw0 hb0) (W3_v50 m ρ c x w0 b0 g0 hx hw0 hb0 hg0) (W3_v51 m ρ c x w0 b0 g0 be0 hx hw0 hb0 hg0 hbe0)
    (W3_v31 m ρ c wr hwr) (W3_v52 m ρ c br hbr) (W3_v30 m ρ c w1 hw1) (W3_v53 m ρ c b1 hb1))

/-- At `W5`: the second layer's convolution. -/
theorem W5_v54_0 (b : Fin 32) (k : Fin 16) (j : Fin 8192) :
    rd (S := S32x16x8192) (W5 m ρ c (Proc.devRef .tc main_v54_0)) (ix3 b k j) = y1 x w0 b0 g0 be0 wr br w1 b1 k b j :=
  (rd_congr ((W5_of m ρ c main_v54_0 (by decide)).trans (W4_v54_0 m ρ c x w0 b0 g0 be0 wr br w1 b1 hx hw0 hb0 hg0 hbe0 hwr hbr hw1 hb1)) _).trans rfl

include hg1
/-- At `W5`: the second layer's factors. -/
theorem W5_v73 (o : Fin 16) : rd (S := S16x1) (W5 m ρ c (Proc.devRef .tc main_v73)) (ix2 o 0) = (scale (y1 x w0 b0 g0 be0 wr br w1 b1 o) (g1 o) : EReal) :=
  v73_at (W4 m ρ c) (y1 x w0 b0 g0 be0 wr br w1 b1) g1
    (fun o => (rd_congr (W4_v54_1 m ρ c x w0 b0 g0 be0 wr br w1 b1 hx hw0 hb0 hg0 hbe0 hwr hbr hw1 hb1) _).trans rfl)
    (fun o => (rd_congr (W4_v54_2 m ρ c x w0 b0 g0 be0 wr br w1 b1 hx hw0 hb0 hg0 hbe0 hwr hbr hw1 hb1) _).trans rfl)
    (fun o => (rd_congr (W4_args m ρ c main_arg10 (by simp)) _).trans (hg1 o)) o
include hbe1
/-- At `W5`: the second layer's summands. -/
theorem W5_v74 (o : Fin 16) : rd (S := S16x1) (W5 m ρ c (Proc.devRef .tc main_v74)) (ix2 o 0) = (shift (y1 x w0 b0 g0 be0 wr br w1 b1 o) (g1 o) (be1 o) : EReal) :=
  v74_at (W4 m ρ c) (y1 x w0 b0 g0 be0 wr br w1 b1) g1 be1
    (fun o => (rd_congr (W4_v54_1 m ρ c x w0 b0 g0 be0 wr br w1 b1 hx hw0 hb0 hg0 hbe0 hwr hbr hw1 hb1) _).trans rfl)
    (fun o => (rd_congr (W4_v54_2 m ρ c x w0 b0 g0 be0 wr br w1 b1 hx hw0 hb0 hg0 hbe0 hwr hbr hw1 hb1) _).trans rfl)
    (fun o => (rd_congr (W4_args m ρ c main_arg10 (by simp)) _).trans (hg1 o))
    (fun o => (rd_congr (W4_args m ρ c main_arg11 (by simp)) _).trans (hbe1 o)) o

/-- The last pallas_call's result, -/
theorem W6_v76 : (W6 m ρ c (Proc.devRef .tc main_v76) : Vec Ideal S32x16x16x8192 .f32)
    = fun i : S32x16x16x8192.Idx => (out x w0 b0 g0 be0 wr br w1 b1 g1 be1 (i 0) (i 2) (i 1) (i 3) : EReal) :=
  (W6_arr m ρ c 9).trans (Value3.out (V5 m ρ) c x (fun b o => y0 x w0 b0 o b) (fun b o => y1 x w0 b0 g0 be0 wr br w1 b1 o b)
    (fun o => scale (y0 x w0 b0 o) (g0 o)) (fun o => shift (y0 x w0 b0 o) (g0 o) (be0 o))
    (fun o => scale (y1 x w0 b0 g0 be0 wr br w1 b1 o) (g1 o)) (fun o => shift (y1 x w0 b0 g0 be0 wr br w1 b1 o) (g1 o) (be1 o)) wr br
    (fun b k j => (rd_congr (W5_args m ρ c main_arg0 (by simp)) _).trans (hx b k j))
    (W5_v33_0 m ρ c x w0 b0 hx hw0 hb0) (W5_v54_0 m ρ c x w0 b0 g0 be0 wr br w1 b1 hx hw0 hb0 hg0 hbe0 hwr hbr hw1 hb1)
    (W5_v71 m ρ c x w0 b0 g0 hx hw0 hb0 hg0) (W5_v72 m ρ c x w0 b0 g0 be0 hx hw0 hb0 hg0 hbe0)
    (W5_v73 m ρ c x w0 b0 g0 be0 wr br w1 b1 g1 hx hw0 hb0 hg0 hbe0 hwr hbr hw1 hb1 hg1)
    (W5_v74 m ρ c x w0 b0 g0 be0 wr br w1 b1 g1 be1 hx hw0 hb0 hg0 hbe0 hwr hbr hw1 hb1 hg1 hbe1)
    (W5_v31 m ρ c wr hwr) (W5_v75 m ρ c br hbr))

/-- and the kernel's. -/
theorem W7_v77 (b : Fin 32) (o : Fin 16) (t : Fin 8192) (v : Fin 16) :
    rd (S := S32x16x8192x16) (W7 m ρ c (Proc.devRef .tc main_v77)) (ix4 b o t v) = out x w0 b0 g0 be0 wr br w1 b1 g1 be1 b v o t :=
  (v77_at (W6 m ρ c) b o t v).trans
    ((rd_congr (W6_v76 m ρ c x w0 b0 g0 be0 wr br w1 b1 g1 be1 hx hw0 hb0 hg0 hbe0 hwr hbr hw1 hb1 hg1 hbe1) _).trans rfl)
end Second

end Cert.KernelIdeal.ValueWhole
-- ==== Proof.Value.Reference.lean ====
/- The reference over the extended reals: at the averaging matrix and finite scales, its result is the network of `Spec`. -/
module

public import proofs.«01_k».proof.Proof.Gen.ReferenceIdeal.Run
public import proofs.«01_k».proof.Proof.Value.Stage1

@[expose] public section

set_option maxRecDepth 16384

noncomputable section

namespace Cert.ReferenceIdeal.ValueWhole

open Cert.ReferenceIdeal Cert.ReferenceIdeal.Gen Cert.ReferenceIdeal.Value Cert.Spec
open Cert.KernelIdeal.Value1 (rd)
open Idealize.ShloMosaic Idealize.ShloMosaic.TcCoe
open scoped BigOperators

section Terms
variable {F : FTy → Type} [FloatOps F]

/-- The number of summands of a mean. -/
def count : FVec F S_ .f32 := subf (constant S_ .f32 0x4A800000#32) (sitofp .f32 (constantI S_ 32 0#32))
/-- An array less its means. -/
def centred (Y : FVec F S32x16x8192x16 .f32) : FVec F S32x16x8192x16 .f32 :=
  subf Y (broadcastInDim S32x16x8192x16 ![0, 1, 2, 3] bcast_S1x16x1x1_S32x16x8192x16_0_1_2_3 (Host.divf (broadcastInDim S1x16x1x1 ![1] bcast_S16_S1x16x1x1_1 (Host.reduceAdd Y (constant S_ .f32 0x00000000#32) reducesTo_S32x16x8192x16_S16_d0_2_3 h_S_)) (broadcastInDim S1x16x1x1 ![] bcast_S_S1x16x1x1 (constant S_ .f32 0x4A800000#32))))
/-- A normalisation, the residual's addition and the rectification. -/
def tail (Y R : FVec F S32x16x8192x16 .f32) (G BE : FVec F S16 .f32) : FVec F S32x16x8192x16 .f32 :=
  maximumf (addf (addf (Host.divf (mulf (broadcastInDim S32x16x8192x16 ![0, 1, 2, 3] bcast_S1x16x1x1_S32x16x8192x16_0_1_2_3 (broadcastInDim S1x16x1x1 ![1] bcast_S16_S1x16x1x1_1 G)) (subf Y (broadcastInDim S32x16x8192x16 ![0, 1, 2, 3] bcast_S1x16x1x1_S32x16x8192x16_0_1_2_3 (Host.divf (broadcastInDim S1x16x1x1 ![1] bcast_S16_S1x16x1x1_1 (Host.reduceAdd Y (constant S_ .f32 0x00000000#32) reducesTo_S32x16x8192x16_S16_d0_2_3 h_S_)) (broadcastInDim S1x16x1x1 ![] bcast_S_S1x16x1x1 (constant S_ .f32 0x4A800000#32)))))) (broadcastInDim S32x16x8192x16 ![0, 1, 2, 3] bcast_S1x16x1x1_S32x16x8192x16_0_1_2_3 (Host.sqrt (addf (select (broadcastInDim S1x16x1x1 ![] bcast_S_S1x16x1x1 (cmpf .ogt (count (F := F)) (constant S_ .f32 0x00000000#32))) (Host.divf (broadcastInDim S1x16x1x1 ![1] bcast_S16_S1x16x1x1_1 (Host.reduceAdd (mulf (centred Y) (centred Y)) (constant S_ .f32 0x00000000#32) reducesTo_S32x16x8192x16_S16_d0_2_3 h_S_)) (broadcastInDim S1x16x1x1 ![] bcast_S_S1x16x1x1 (count (F := F)))) (broadcastInDim S1x16x1x1 ![] bcast_S_S1x16x1x1 (id (constant S_ .f32 0x7FC00000#32)))) (broadcastInDim S1x16x1x1 ![] bcast_S_S1x16x1x1 (constant S_ .f32 0x3727C5AC#32)))))) (broadcastInDim S32x16x8192x16 ![0, 1, 2, 3] bcast_S1x16x1x1_S32x16x8192x16_0_1_2_3 (broadcastInDim S1x16x1x1 ![1] bcast_S16_S1x16x1x1_1 BE))) R) (broadcastInDim S32x16x8192x16 ![] bcast_S_S32x16x8192x16 (constant S_ .f32 0x00000000#32))

/-- The first layer's convolution, at every position, -/
def pre0 (V0 : Valuation τ sig (Elt F)) : FVec F S32x16x8192x16 .f32 :=
  (addf (addf (addf (addf (broadcastInDim S32x16x8192x16 ![] bcast_S_S32x16x8192x16 (constant S_ .f32 0x00000000#32)) (transpose S32x16x8192x16 [0, 3, 1, 2] (Host.dotGeneral dot_S32x2x8192x16_S16x2_S32x8192x16x16_1_1_023_0_n_n none (extractStridedSlice S32x2x8192x16 ![0, 0, 0, 0] (res_main_v2 V0) slices_S32x2x8194x16_S32x2x8192x16_0_0_0_0) (shapeCast _ (extractStridedSlice S16x2x1x1 ![0, 0, 0, 0] (V0 (Proc.devRef .tc main_arg2)) slices_S16x2x3x1_S16x2x1x1_0_0_0_0) shapeCasts_S16x2x1x1_S16x2)) transposes_S32x8192x16x16_S32x16x8192x16_0_3_1_2)) (transpose S32x16x8192x16 [0, 3, 1, 2] (Host.dotGeneral dot_S32x2x8192x16_S16x2_S32x8192x16x16_1_1_023_0_n_n none (extractStridedSlice S32x2x8192x16 ![0, 0, 1, 0] (res_main_v2 V0) slices_S32x2x8194x16_S32x2x8192x16_0_0_1_0) (shapeCast _ (extractStridedSlice S16x2x1x1 ![0, 0, 1, 0] (V0 (Proc.devRef .tc main_arg2)) slices_S16x2x3x1_S16x2x1x1_0_0_1_0) shapeCasts_S16x2x1x1_S16x2)) transposes_S32x8192x16x16_S32x16x8192x16_0_3_1_2)) (transpose S32x16x8192x16 [0, 3, 1, 2] (Host.dotGeneral dot_S32x2x8192x16_S16x2_S32x8192x16x16_1_1_023_0_n_n none (extractStridedSlice S32x2x8192x16 ![0, 0, 2, 0] (res_main_v2 V0) slices_S32x2x8194x16_S32x2x8192x16_0_0_2_0) (shapeCast _ (extractStridedSlice S16x2x1x1 ![0, 0, 2, 0] (V0 (Proc.devRef .tc main_arg2)) slices_S16x2x3x1_S16x2x1x1_0_0_2_0) shapeCasts_S16x2x1x1_S16x2)) transposes_S32x8192x16x16_S32x16x8192x16_0_3_1_2)) (broadcastInDim S32x16x8192x16 ![0, 1, 2, 3] bcast_S1x16x1x1_S32x16x8192x16_0_1_2_3 (broadcastInDim S1x16x1x1 ![1] bcast_S16_S1x16x1x1_1 (V0 (Proc.devRef .tc main_arg3)))))
/-- the residual of the first layer, -/
def resid (V0 : Valuation τ sig (Elt F)) : FVec F S32x16x8192x16 .f32 :=
  (addf (addf (broadcastInDim S32x16x8192x16 ![] bcast_S_S32x16x8192x16 (constant S_ .f32 0x00000000#32)) (transpose S32x16x8192x16 [0, 3, 1, 2] (Host.dotGeneral dot_S32x2x8192x16_S16x2_S32x8192x16x16_1_1_023_0_n_n none (pad S32x2x8192x16 ![0, 0, 0, 0] ![0, 0, 0, 0] ![0, 0, 0, 0] (res_main_v1 V0) (sitofp .f32 (constantI S_ 32 0#32)) pads_S32x2x8192x16_S32x2x8192x16_000_000_000_000 h_S_) (shapeCast _ (V0 (Proc.devRef .tc main_arg6)) shapeCasts_S16x2x1x1_S16x2)) transposes_S32x8192x16x16_S32x16x8192x16_0_3_1_2)) (broadcastInDim S32x16x8192x16 ![0, 1, 2, 3] bcast_S1x16x1x1_S32x16x8192x16_0_1_2_3 (broadcastInDim S1x16x1x1 ![1] bcast_S16_S1x16x1x1_1 (V0 (Proc.devRef .tc main_arg7)))))
/-- and the second layer's convolution. -/
def pre1 (V0 : Valuation τ sig (Elt F)) : FVec F S32x16x8192x16 .f32 :=
  (addf (addf (addf (addf (broadcastInDim S32x16x8192x16 ![] bcast_S_S32x16x8192x16 (constant S_ .f32 0x00000000#32)) (transpose S32x16x8192x16 [0, 3, 1, 2] (Host.dotGeneral dot_S32x16x8192x16_S16x16_S32x8192x16x16_1_1_023_0_n_n none (extractStridedSlice S32x16x8192x16 ![0, 0, 0, 0] (res_main_v56 V0) slices_S32x16x8194x16_S32x16x8192x16_0_0_0_0) (shapeCast _ (extractStridedSlice S16x16x1x1 ![0, 0, 0, 0] (V0 (Proc.devRef .tc main_arg8)) slices_S16x16x3x1_S16x16x1x1_0_0_0_0) shapeCasts_S16x16x1x1_S16x16)) transposes_S32x8192x16x16_S32x16x8192x16_0_3_1_2)) (transpose S32x16x8192x16 [0, 3, 1, 2] (Host.dotGeneral dot_S32x16x8192x16_S16x16_S32x8192x16x16_1_1_023_0_n_n none (extractStridedSlice S32x16x8192x16 ![0, 0, 1, 0] (res_main_v56 V0) slices_S32x16x8194x16_S32x16x8192x16_0_0_1_0) (shapeCast _ (extractStridedSlice S16x16x1x1 ![0, 0, 1, 0] (V0 (Proc.devRef .tc main_arg8)) slices_S16x16x3x1_S16x16x1x1_0_0_1_0) shapeCasts_S16x16x1x1_S16x16)) transposes_S32x8192x16x16_S32x16x8192x16_0_3_1_2)) (transpose S32x16x8192x16 [0, 3, 1, 2] (Host.dotGeneral dot_S32x16x8192x16_S16x16_S32x8192x16x16_1_1_023_0_n_n none (extractStridedSlice S32x16x8192x16 ![0, 0, 2, 0] (res_main_v56 V0) slices_S32x16x8194x16_S32x16x8192x16_0_0_2_0) (shapeCast _ (extractStridedSlice S16x16x1x1 ![0, 0, 2, 0] (V0 (Proc.devRef .tc main_arg8)) slices_S16x16x3x1_S16x16x1x1_0_0_2_0) shapeCasts_S16x16x1x1_S16x16)) transposes_S32x8192x16x16_S32x16x8192x16_0_3_1_2)) (broadcastInDim S32x16x8192x16 ![0, 1, 2, 3] bcast_S1x16x1x1_S32x16x8192x16_0_1_2_3 (broadcastInDim S1x16x1x1 ![1] bcast_S16_S1x16x1x1_1 (V0 (Proc.devRef .tc main_arg9)))))

/-- The first layer, with its parts named. -/
theorem v55_eq (V0 : Valuation τ sig (Elt F)) : res_main_v55 V0 = tail (res_main_v26 V0) (resid V0) (V0 (Proc.devRef .tc main_arg4)) (V0 (Proc.devRef .tc main_arg5)) := rfl

end Terms

/-- The product with the averaging matrix sums over the positions. -/
theorem avg_at (x : FVec Ideal S32x16x8192x16 .f32) (A : FVec Ideal S1x16x16 .f32) (b : Fin 32) (o : Fin 16) (t : Fin 8192) (w : Fin 16) :
    Host.dotGeneral dot_S32x1x16x8192x16_S1x16x16_S32x16x8192x16_14_01_023_2_n_n none (shapeCast S32x1x16x8192x16 x shapeCasts_S32x16x8192x16_S32x1x16x8192x16) A (ix4 b o t w)
      = (∑ v : Fin 16, x (ix4 b o t v) * A (ix3 0 v w) : EReal) := by
  pointwise
  simp only [Fin.sum_univ_one]

/-- The indices over channel `o`. -/
theorem fiber (o : Fin 16) (i : S32x16x8192x16.Idx) :
    reducesTo_S32x16x8192x16_S16_d0_2_3.drop i = ix1 o ↔ ∃ k : Fin 32 × Fin 8192 × Fin 16, ix4 k.1 o k.2.1 k.2.2 = i := by
  constructor
  · intro e
    refine ⟨(i 0, i 2, i 3), ?_⟩
    funext a
    match a with
    | 0 => rfl
    | 1 => exact Fin.ext (congrArg Fin.val (congrFun e 0)).symm
    | 2 => rfl
    | 3 => rfl
  · rintro ⟨k, rfl⟩
    funext a
    match a with
    | 0 => rfl

/-- The sum over batches, times and positions. -/
theorem sum_at (x : S32x16x8192x16.Idx → EReal) (o : Fin 16) :
    Ideal.hostReduceAdd reducesTo_S32x16x8192x16_S16_d0_2_3 x 0 (ix1 o) = ∑ b : Fin 32, ∑ t : Fin 8192, ∑ w : Fin 16, x (ix4 b o t w) := by
  refine (zero_add _).trans ?_
  rw [Finset.sum_filter_eq_sum_of_fiber _ (fun k : Fin 32 × Fin 8192 × Fin 16 => ix4 k.1 o k.2.1 k.2.2) (fun k l e => Prod.ext (congrFun e 0) (Prod.ext (congrFun e 2) (congrFun e 3))) (fiber o) x]
  simp only [Fintype.sum_prod_type]

/-- The normalisation with the residual, from the values of its operands. -/
theorem tail_at (Y R : FVec Ideal S32x16x8192x16 .f32) (G BE : FVec Ideal S16 .f32) (y : Fin 16 → Fin 32 → Fin 8192 → EReal) (r : Fin 32 → Fin 16 → Fin 16 → Fin 8192 → EReal)
    (g be : Fin 16 → EReal) (hY : ∀ b o t v, Y (ix4 b o t v) = y o b t) (hR : ∀ b o t v, R (ix4 b o t v) = r b v o t)
    (hG : ∀ o, G (ix1 o) = g o) (hBE : ∀ o, BE (ix1 o) = be o)
    (hr : ∀ o, ∃ r : ℝ, g o = r) (b : Fin 32) (o : Fin 16) (t : Fin 8192) (v : Fin 16) :
    tail Y R G BE (ix4 b o t v) = (max (scale (y o) (g o) * y o b t + shift (y o) (g o) (be o) + r b v o t) 0 : EReal) := by
  unfold tail count
  pointwise
  simp only [sum_at]
  unfold centred
  pointwise
  simp only [sum_at]
  have hz : (FloatOps.sitofp FTy.f32 0#32 : Ideal .f32) = (0 : EReal) := by simp [FloatOps.sitofp]
  have hpos : (0 : EReal) < num16 := EReal.coe_pos.2 (by norm_num)
  have ha := affine (y o) (g o) (be o) (hr o) b t
  unfold var16 mean16 at ha
  simp only [hY, hR, hG, hBE, hz, sub_zero, ofBits_count16, ofBits_eps, if_pos hpos, ha]

variable (V0 : Valuation τ sig (Elt Ideal))

/-- The input with its rows split into positions and channels. -/
theorem x_at (X : Fin 32 → Fin 32 → Fin 8192 → EReal) (hX : ∀ b k j, rd (S := S32x32x8192) (V0 (Proc.devRef .tc main_arg0)) (ix3 b k j) = X b k j)
    (b : Fin 32) (k : Fin 2) (t : Fin 8192) (v : Fin 16) : rd (S := S32x2x8192x16) (res_main_v1 V0) (ix4 b k t v) = (X b (row v k) t : EReal) := by
  have e : (⟨v.val * 2 + k.val, by omega⟩ : Fin 32) = row v k := Fin.ext (by simp [row]; omega)
  unfold rd res_main_v1
  pointwise
  exact (hX b ⟨v.val * 2 + k.val, by omega⟩ t).trans (by rw [e])

/-- The same, padded in time. -/
theorem pad_at (X : Fin 32 → Fin 32 → Fin 8192 → EReal) (hX : ∀ b k j, rd (S := S32x32x8192) (V0 (Proc.devRef .tc main_arg0)) (ix3 b k j) = X b k j)
    (b : Fin 32) (k : Fin 2) (p : Fin 8194) (v : Fin 16) : rd (S := S32x2x8194x16) (res_main_v2 V0) (ix4 b k p v) = (padAt (X b (row v k)) p : EReal) := by
  have hx := x_at V0 X hX
  have hz : (FloatOps.sitofp FTy.f32 0#32 : Ideal .f32) = (0 : EReal) := by simp [FloatOps.sitofp]
  unfold rd res_main_v2
  pointwise
  unfold padAt
  by_cases h : 1 ≤ (p : ℕ) ∧ (p : ℕ) ≤ 8192
  · rw [dif_pos h, dif_pos]
    · exact hx _ _ _ _
    · intro a
      match a with
      | 0 => simp; omega
      | 1 => simp; omega
      | 2 => simp; omega
      | 3 => simp; omega
  · rw [dif_neg h, dif_neg]
    · exact hz
    · intro q
      have := q 2
      simp at this
      omega

/-- Three taps and a bias, in the reference's order. -/
theorem conv_eq {n : ℕ} (w : Fin 16 → Fin n → Fin 3 → EReal) (b : Fin 16 → EReal) (f : Fin n → Fin 8192 → EReal) (o : Fin 16) (t : Fin 8192) :
    ∑ c, padAt (f c) t * w o c 0 + ∑ c, padAt (f c) (t + 1) * w o c 1 + ∑ c, padAt (f c) (t + 2) * w o c 2 + b o = conv w b f o t := by
  unfold conv
  simp only [mul_comm]
  ac_rfl

section Net
variable (x : Fin 32 → Fin 32 → Fin 8192 → EReal) (w0 : Fin 16 → Fin 2 → Fin 3 → EReal) (b0 g0 be0 : Fin 16 → EReal)
  (wr : Fin 16 → Fin 2 → EReal) (br : Fin 16 → EReal) (w1 : Fin 16 → Fin 16 → Fin 3 → EReal) (b1 g1 be1 : Fin 16 → EReal)
variable (hx : ∀ b k j, rd (S := S32x32x8192) (V0 (Proc.devRef .tc main_arg0)) (ix3 b k j) = x b k j)
  (hA : ∀ v w, rd (S := S1x16x16) (V0 (Proc.devRef .tc main_arg1)) (ix3 0 v w) = sixteenth)
  (hw0 : ∀ o k d, rd (S := S16x2x3x1) (V0 (Proc.devRef .tc main_arg2)) (ix4 o k d 0) = w0 o k d)
  (hb0 : ∀ o, rd (S := S16) (V0 (Proc.devRef .tc main_arg3)) (ix1 o) = b0 o)
  (hg0 : ∀ o, rd (S := S16) (V0 (Proc.devRef .tc main_arg4)) (ix1 o) = g0 o)
  (hbe0 : ∀ o, rd (S := S16) (V0 (Proc.devRef .tc main_arg5)) (ix1 o) = be0 o)
  (hwr : ∀ o k, rd (S := S16x2x1x1) (V0 (Proc.devRef .tc main_arg6)) (ix4 o k 0 0) = wr o k)
  (hbr : ∀ o, rd (S := S16) (V0 (Proc.devRef .tc main_arg7)) (ix1 o) = br o)
  (hw1 : ∀ o k d, rd (S := S16x16x3x1) (V0 (Proc.devRef .tc main_arg8)) (ix4 o k d 0) = w1 o k d)
  (hb1 : ∀ o, rd (S := S16) (V0 (Proc.devRef .tc main_arg9)) (ix1 o) = b1 o)
  (hg1 : ∀ o, rd (S := S16) (V0 (Proc.devRef .tc main_arg10)) (ix1 o) = g1 o)
  (hbe1 : ∀ o, rd (S := S16) (V0 (Proc.devRef .tc main_arg11)) (ix1 o) = be1 o)
  (hr0 : ∀ o, ∃ r : ℝ, g0 o = r) (hr1 : ∀ o, ∃ r : ℝ, g1 o = r)

include hx hw0 hb0 in
/-- The first layer's convolution at every position. -/
theorem pre0_at (b : Fin 32) (o : Fin 16) (t : Fin 8192) (v : Fin 16) :
    pre0 V0 (ix4 b o t v) = (conv w0 b0 (fun c => x b (row v c)) o t : EReal) := by
  have hp : ∀ k p, (res_main_v2 V0 (ix4 b k p v) : EReal) = (padAt (x b (row v k)) p : EReal) := fun k p => pad_at V0 x hx b k p v
  have hw : ∀ k d, (V0 (Proc.devRef .tc main_arg2) (ix4 o k d 0) : EReal) = w0 o k d := fun k d => hw0 o k d
  have hb : (V0 (Proc.devRef .tc main_arg3) (ix1 o) : EReal) = b0 o := hb0 o
  have h0 : ∀ k (h : (t : ℕ) < 8194), (res_main_v2 V0 (ix4 b k ⟨t, h⟩ v) : EReal) = (padAt (x b (row v k)) t : EReal) := fun k h => hp k ⟨t, h⟩
  have h1 : ∀ k (h : 1 + (t : ℕ) < 8194), (res_main_v2 V0 (ix4 b k ⟨1 + t, h⟩ v) : EReal) = (padAt (x b (row v k)) (t + 1) : EReal) := fun k h =>
    (hp k ⟨1 + t, h⟩).trans (congrArg (fun n => (padAt _ n : EReal)) (Nat.add_comm _ _))
  have h2 : ∀ k (h : 2 + (t : ℕ) < 8194), (res_main_v2 V0 (ix4 b k ⟨2 + t, h⟩ v) : EReal) = (padAt (x b (row v k)) (t + 2) : EReal) := fun k h =>
    (hp k ⟨2 + t, h⟩).trans (congrArg (fun n => (padAt _ n : EReal)) (Nat.add_comm _ _))
  unfold pre0
  pointwise
  simp only [h0, h1, h2, hw, hb]
  exact conv_eq w0 b0 (fun c => x b (row v c)) o t

include hx hA hw0 hb0 in
/-- The averaged convolution is the convolution with the averaging weights. -/
theorem v26_at (b : Fin 32) (o : Fin 16) (t : Fin 8192) (w : Fin 16) :
    res_main_v26 V0 (ix4 b o t w) = y0 x w0 b0 o b t := by
  refine (avg_at (pre0 V0) (V0 (Proc.devRef .tc main_arg1)) b o t w).trans ?_
  have hA' : ∀ v, (V0 (Proc.devRef .tc main_arg1) (ix3 0 v w) : EReal) = sixteenth := fun v => hA v w
  simp only [pre0_at V0 x w0 b0 hx hw0 hb0, hA']
  exact conv_tiled w0 b0 (x b) o t

include hx hwr hbr in
/-- The residual of the first layer. -/
theorem resid_at (b : Fin 32) (o : Fin 16) (t : Fin 8192) (v : Fin 16) :
    resid V0 (ix4 b o t v) = res x wr br b v o t := by
  have hp : ∀ k p, (res_main_v1 V0 (ix4 b k p v) : EReal) = (x b (row v k) p : EReal) := fun k p => x_at V0 x hx b k p v
  have hw : ∀ k, (V0 (Proc.devRef .tc main_arg6) (ix4 o k 0 0) : EReal) = wr o k := fun k => hwr o k
  have hb : (V0 (Proc.devRef .tc main_arg7) (ix1 o) : EReal) = br o := hbr o
  unfold resid
  pointwise
  rw [Fin.sum_univ_two, dif_pos, dif_pos, hp, hp, hw, hw, hb]
  · unfold res
    simp only [mul_comm]
  all_goals
    intro a
    match a with
    | 0 => simp; omega
    | 1 => simp
    | 2 => simp; omega
    | 3 => simp; omega

include hx hA hw0 hb0 hg0 hbe0 hwr hbr hr0

/-- The first layer. -/
theorem v55_at (b : Fin 32) (o : Fin 16) (t : Fin 8192) (v : Fin 16) :
    res_main_v55 V0 (ix4 b o t v) = h x w0 b0 g0 be0 wr br b v o t := by
  rw [v55_eq]
  exact tail_at _ _ _ _ (y0 x w0 b0) (res x wr br) g0 be0 (v26_at V0 x w0 b0 hx hA hw0 hb0) (resid_at V0 x wr br hx hwr hbr) hg0 hbe0 hr0 b o t v

/-- It, padded in time. -/
theorem v56_at (b : Fin 32) (k : Fin 16) (p : Fin 8194) (v : Fin 16) :
    res_main_v56 V0 (ix4 b k p v) = (padAt (h x w0 b0 g0 be0 wr br b v k) p : EReal) := by
  have hh := v55_at V0 x w0 b0 g0 be0 wr br hx hA hw0 hb0 hg0 hbe0 hwr hbr hr0
  have hz : (FloatOps.sitofp FTy.f32 0#32 : Ideal .f32) = (0 : EReal) := by simp [FloatOps.sitofp]
  unfold res_main_v56
  pointwise
  unfold padAt
  by_cases h : 1 ≤ (p : ℕ) ∧ (p : ℕ) ≤ 8192
  · rw [dif_pos h, dif_pos]
    · exact hh _ _ _ _
    · intro a
      match a with
      | 0 => simp; omega
      | 1 => simp; omega
      | 2 => simp; omega
      | 3 => simp; omega
  · rw [dif_neg h, dif_neg]
    · exact hz
    · intro q
      have := q 2
      simp at this
      omega

include hw1 hb1
/-- The second layer's convolution at every position, -/
theorem pre1_at (b : Fin 32) (o : Fin 16) (t : Fin 8192) (v : Fin 16) :
    pre1 V0 (ix4 b o t v) = (conv w1 b1 (fun c t => h x w0 b0 g0 be0 wr br b v c t) o t : EReal) := by
  have hp := v56_at V0 x w0 b0 g0 be0 wr br hx hA hw0 hb0 hg0 hbe0 hwr hbr hr0
  have hw : ∀ k d, (V0 (Proc.devRef .tc main_arg8) (ix4 o k d 0) : EReal) = w1 o k d := fun k d => hw1 o k d
  have hb : (V0 (Proc.devRef .tc main_arg9) (ix1 o) : EReal) = b1 o := hb1 o
  have h0 : ∀ k (hk : (t : ℕ) < 8194), (res_main_v56 V0 (ix4 b k ⟨t, hk⟩ v) : EReal) = (padAt (h x w0 b0 g0 be0 wr br b v k) t : EReal) := fun k hk => hp b k ⟨t, hk⟩ v
  have h1 : ∀ k (hk : 1 + (t : ℕ) < 8194), (res_main_v56 V0 (ix4 b k ⟨1 + t, hk⟩ v) : EReal) = (padAt (h x w0 b0 g0 be0 wr br b v k) (t + 1) : EReal) := fun k hk =>
    (hp b k ⟨1 + t, hk⟩ v).trans (congrArg (fun n => (padAt _ n : EReal)) (Nat.add_comm _ _))
  have h2 : ∀ k (hk : 2 + (t : ℕ) < 8194), (res_main_v56 V0 (ix4 b k ⟨2 + t, hk⟩ v) : EReal) = (padAt (h x w0 b0 g0 be0 wr br b v k) (t + 2) : EReal) := fun k hk =>
    (hp b k ⟨2 + t, hk⟩ v).trans (congrArg (fun n => (padAt _ n : EReal)) (Nat.add_comm _ _))
  unfold pre1
  pointwise
  simp only [h0, h1, h2, hw, hb]
  exact conv_eq w1 b1 (fun c t => h x w0 b0 g0 be0 wr br b v c t) o t

/-- and averaged. -/
theorem v80_at (b : Fin 32) (o : Fin 16) (t : Fin 8192) (w : Fin 16) :
    res_main_v80 V0 (ix4 b o t w) = y1 x w0 b0 g0 be0 wr br w1 b1 o b t := by
  refine (avg_at (pre1 V0) (V0 (Proc.devRef .tc main_arg1)) b o t w).trans ?_
  have hA' : ∀ v, (V0 (Proc.devRef .tc main_arg1) (ix3 0 v w) : EReal) = sixteenth := fun v => hA v w
  simp only [pre1_at V0 x w0 b0 g0 be0 wr br w1 b1 hx hA hw0 hb0 hg0 hbe0 hwr hbr hw1 hb1 hr0, hA']
  exact conv_mean w1 b1 (fun v c t => h x w0 b0 g0 be0 wr br b v c t) (fun v c t => h_nonneg x w0 b0 g0 be0 wr br b v c t) o t

include hg1 hbe1 hr1
/-- The reference's result. -/
theorem result_at (b : Fin 32) (o : Fin 16) (t : Fin 8192) (v : Fin 16) :
    tail (res_main_v80 V0) (res_main_v55 V0) (V0 (Proc.devRef .tc main_arg10)) (V0 (Proc.devRef .tc main_arg11)) (ix4 b o t v)
      = out x w0 b0 g0 be0 wr br w1 b1 g1 be1 b v o t :=
  tail_at _ _ _ _ (y1 x w0 b0 g0 be0 wr br w1 b1) (fun b v o t => h x w0 b0 g0 be0 wr br b v o t) g1 be1
    (v80_at V0 x w0 b0 g0 be0 wr br w1 b1 hx hA hw0 hb0 hg0 hbe0 hwr hbr hw1 hb1 hr0)
    (v55_at V0 x w0 b0 g0 be0 wr br hx hA hw0 hb0 hg0 hbe0 hwr hbr hr0) hg1 hbe1 hr1 b o t v
end Net

end Cert.ReferenceIdeal.ValueWhole
-- ==== Proof.Value.Regular.lean ====
/- What the precondition `regular` says of the arguments: the averaging matrix is 1/16 everywhere and the scales are real. -/
module

public import proofs.«01_k».proof.Proof.Gen.Pre_regular
public import proofs.«01_k».proof.Proof.Value.Stage1
public import Idealize.ShloMosaic.Lib.ReduceAll

@[expose] public section

set_option maxRecDepth 16384

noncomputable section

namespace Cert.Pre_regular.Reading

open Cert.Pre_regular Cert.Pre_regular.Gen Cert.Spec
open Cert.KernelIdeal.Value1 (rd)
open Idealize.ShloMosaic

/-- Every element of an array is a real number. -/
def AllReal {S : Shape} (a : FVec Ideal S .f32) : Prop := ∀ i, rd (S := S) a i = ((rd (S := S) a i).toReal : EReal)

/-- An extended real below infinity in absolute value is a real number. -/
theorem real_of_abs_lt (x : EReal) (h : max x (-x) < ⊤) : x = (x.toReal : EReal) := by
  refine (EReal.coe_toReal ?_ ?_).symm
  · rintro rfl; exact absurd h (by simp)
  · rintro rfl; exact absurd h (by simp)

/-- A decision written as a bit is one exactly when it holds. -/
theorem of_bit {p : Prop} [Decidable p] (h : BitVec.ofBool (decide p) = 1#1) : p := by
  by_contra hp
  rw [decide_eq_false hp] at h
  exact absurd h (by decide)

/-- A scalar has one index. -/
instance : Subsingleton S_.Idx := ⟨fun a b => funext fun k => k.elim0⟩

/-- `all(|a| < inf)` says that `a` is real throughout. -/
theorem real_of_all {S : Shape} {axes : List (Fin S.rank)} (a : FVec Ideal S .f32) (hb : S_.BroadcastsInDim S (![] : Fin 0 → Fin S.rank))
    (h : S.ReducesTo axes S_) (hu : 0 < S_.numel) (init : IVec S_ 1) (j : S_.Idx)
    (e : Host.reduce IntOp.andi (cmpf .olt (Host.absf a) (broadcastInDim S ![] hb (constant (F := Ideal) S_ .f32 0x7F800000#32))) init h hu j = 1#1) :
    AllReal a := fun i => by
  have e' := Host.reduce_andi_all _ _ h hu j e i
  have e2 : Ideal.cmp .olt (max (rd (S := S) a i) (-rd (S := S) a i)) (Ideal.ofBits .f32 0x7F800000#32) = 1#1 := e'
  rw [ofBits_inf] at e2
  exact real_of_abs_lt _ (of_bit e2)

/-- `all(a == 1/16)` says that `a` is 1/16 throughout. -/
theorem sixteenth_of_all {S : Shape} {axes : List (Fin S.rank)} (a : FVec Ideal S .f32) (hb : S_.BroadcastsInDim S (![] : Fin 0 → Fin S.rank))
    (h : S.ReducesTo axes S_) (hu : 0 < S_.numel) (init : IVec S_ 1) (j : S_.Idx)
    (e : Host.reduce IntOp.andi (cmpf .oeq a (broadcastInDim S ![] hb (constant (F := Ideal) S_ .f32 0x3D800000#32))) init h hu j = 1#1)
    (i : S.Idx) : rd (S := S) a i = sixteenth := by
  have e' := Host.reduce_andi_all _ _ h hu j e i
  have e2 : Ideal.cmp .oeq (rd (S := S) a i) (Ideal.ofBits .f32 0x3D800000#32) = 1#1 := e'
  rw [ofBits_sixteenth] at e2
  exact of_bit e2

/-- The precondition, all ones, read: the matrix is 1/16 and the two scales are real. -/
theorem read (a0 : FVec Ideal S32x32x8192 .f32) (a1 : FVec Ideal S1x16x16 .f32) (a2 : FVec Ideal S16x2x3x1 .f32) (a3 a4 a5 : FVec Ideal S16 .f32)
    (a6 : FVec Ideal S16x2x1x1 .f32) (a7 : FVec Ideal S16 .f32) (a8 : FVec Ideal S16x16x3x1 .f32) (a9 a10 a11 : FVec Ideal S16 .f32)
    (H : fn (F := Ideal) a0 a1 a2 a3 a4 a5 a6 a7 a8 a9 a10 a11 = fun _ => 1#1) :
    (∀ i, rd (S := S1x16x16) a1 i = sixteenth) ∧ AllReal a4 ∧ AllReal a10 := by
  have e := congrFun H (fun k => k.elim0)
  simp only [fn, andi, IntOp.andi_eq_one] at e
  obtain ⟨⟨h1, h4⟩, h10⟩ := e
  exact ⟨sixteenth_of_all a1 _ _ _ _ _ h1, real_of_all a4 _ _ _ _ _ h4, real_of_all a10 _ _ _ _ _ h10⟩

end Cert.Pre_regular.Reading
-- ==== Proof.Value.Equal.lean ====
/- The two results are equal: where `regular` holds, the kernel's and the reference's are both the network of `Spec`. -/
module

public import proofs.«01_k».proof.Proof.Value.Whole
public import proofs.«01_k».proof.Proof.Value.Reference
public import proofs.«01_k».proof.Proof.Value.Regular

@[expose] public section

set_option maxRecDepth 16384

noncomputable section

namespace Cert.Equal

open Cert.ReferenceIdeal Cert.ReferenceIdeal.Value Cert.ReferenceIdeal.ValueWhole Cert.Pre_regular.Reading
open Cert.KernelIdeal.Value1 (rd)
open Cert.KernelIdeal.ValueWhole (rd_congr)
open Idealize.ShloMosaic Idealize.ShloMosaic.StableHlo Idealize.SL.Sem Idealize.ShloMosaic.TcCoe

/-- The reference runs, ends with its arguments as launched and with its result the last layer's `tail`. -/
theorem reference_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = tail (res_main_v80 (launchContents m c)) (res_main_v55 (launchContents m c))
          (launchContents m c (Proc.devRef .tc main_arg10)) (launchContents m c (Proc.devRef .tc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.ReferenceIdeal.Value.run m ρ

/-- On a device whose kernel arguments satisfy `regular` and equal the reference's, the results are equal. -/
theorem results_equal (m : (ℓ : Loc Cert.KernelIdeal.nD Cert.KernelIdeal.τ Cert.KernelIdeal.sig) → Buf (Elt Ideal) ℓ)
    (g : Dev Cert.KernelIdeal.nD → PrngReg) (m' : (ℓ : Loc nD τ sig) → Buf (Elt Ideal) ℓ) (c : Dev Cert.KernelIdeal.nD)
    (H : Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1)
    (E : m' ((c.tc : Thread nD τ).loc main_arg0) = (m ((c.tc : Thread Cert.KernelIdeal.nD Cert.KernelIdeal.τ).loc Cert.KernelIdeal.main_arg0))
      ∧ m' ((c.tc : Thread nD τ).loc main_arg1) = (m ((c.tc : Thread Cert.KernelIdeal.nD Cert.KernelIdeal.τ).loc Cert.KernelIdeal.main_arg1))
      ∧ m' ((c.tc : Thread nD τ).loc main_arg2) = (m ((c.tc : Thread Cert.KernelIdeal.nD Cert.KernelIdeal.τ).loc Cert.KernelIdeal.main_arg2))
      ∧ m' ((c.tc : Thread nD τ).loc main_arg3) = (m ((c.tc : Thread Cert.KernelIdeal.nD Cert.KernelIdeal.τ).loc Cert.KernelIdeal.main_arg3))
      ∧ m' ((c.tc : Thread nD τ).loc main_arg4) = (m ((c.tc : Thread Cert.KernelIdeal.nD Cert.KernelIdeal.τ).loc Cert.KernelIdeal.main_arg4))
      ∧ m' ((c.tc : Thread nD τ).loc main_arg5) = (m ((c.tc : Thread Cert.KernelIdeal.nD Cert.KernelIdeal.τ).loc Cert.KernelIdeal.main_arg5))
      ∧ m' ((c.tc : Thread nD τ).loc main_arg6) = (m ((c.tc : Thread Cert.KernelIdeal.nD Cert.KernelIdeal.τ).loc Cert.KernelIdeal.main_arg6))
      ∧ m' ((c.tc : Thread nD τ).loc main_arg7) = (m ((c.tc : Thread Cert.KernelIdeal.nD Cert.KernelIdeal.τ).loc Cert.KernelIdeal.main_arg7))
      ∧ m' ((c.tc : Thread nD τ).loc main_arg8) = (m ((c.tc : Thread Cert.KernelIdeal.nD Cert.KernelIdeal.τ).loc Cert.KernelIdeal.main_arg8))
      ∧ m' ((c.tc : Thread nD τ).loc main_arg9) = (m ((c.tc : Thread Cert.KernelIdeal.nD Cert.KernelIdeal.τ).loc Cert.KernelIdeal.main_arg9))
      ∧ m' ((c.tc : Thread nD τ).loc main_arg10) = (m ((c.tc : Thread Cert.KernelIdeal.nD Cert.KernelIdeal.τ).loc Cert.KernelIdeal.main_arg10))
      ∧ m' ((c.tc : Thread nD τ).loc main_arg11) = (m ((c.tc : Thread Cert.KernelIdeal.nD Cert.KernelIdeal.τ).loc Cert.KernelIdeal.main_arg11))) :
    (tail (res_main_v80 (launchContents m' c)) (res_main_v55 (launchContents m' c))
        (launchContents m' c (Proc.devRef .tc main_arg10)) (launchContents m' c (Proc.devRef .tc main_arg11)) : FVec Ideal S32x16x8192x16 .f32)
      = Cert.KernelIdeal.Run.W7 m g c (Proc.devRef .tc Cert.KernelIdeal.main_v77) := by
  obtain ⟨r1, r4, r10⟩ := Cert.Pre_regular.Reading.read _ _ _ _ _ _ _ _ _ _ _ _ H
  obtain ⟨e0, e1, e2, e3, e4, e5, e6, e7, e8, e9, e10, e11⟩ := E
  funext i
  rw [eq_ix4 i]
  refine (result_at (launchContents m' c)
    (fun b k j => rd (S := Cert.KernelIdeal.S32x32x8192) (m ((c.tc : Thread Cert.KernelIdeal.nD Cert.KernelIdeal.τ).loc Cert.KernelIdeal.main_arg0)) (ix3 b k j))
    (fun o k d => rd (S := Cert.KernelIdeal.S16x2x3x1) (m ((c.tc : Thread Cert.KernelIdeal.nD Cert.KernelIdeal.τ).loc Cert.KernelIdeal.main_arg2)) (ix4 o k d 0))
    (fun o => rd (S := Cert.KernelIdeal.S16) (m ((c.tc : Thread Cert.KernelIdeal.nD Cert.KernelIdeal.τ).loc Cert.KernelIdeal.main_arg3)) (ix1 o))
    (fun o => rd (S := Cert.KernelIdeal.S16) (m ((c.tc : Thread Cert.KernelIdeal.nD Cert.KernelIdeal.τ).loc Cert.KernelIdeal.main_arg4)) (ix1 o))
    (fun o => rd (S := Cert.KernelIdeal.S16) (m ((c.tc : Thread Cert.KernelIdeal.nD Cert.KernelIdeal.τ).loc Cert.KernelIdeal.main_arg5)) (ix1 o))
    (fun o k => rd (S := Cert.KernelIdeal.S16x2x1x1) (m ((c.tc : Thread Cert.KernelIdeal.nD Cert.KernelIdeal.τ).loc Cert.KernelIdeal.main_arg6)) (ix4 o k 0 0))
    (fun o => rd (S := Cert.KernelIdeal.S16) (m ((c.tc : Thread Cert.KernelIdeal.nD Cert.KernelIdeal.τ).loc Cert.KernelIdeal.main_arg7)) (ix1 o))
    (fun o k d => rd (S := Cert.KernelIdeal.S16x16x3x1) (m ((c.tc : Thread Cert.KernelIdeal.nD Cert.KernelIdeal.τ).loc Cert.KernelIdeal.main_arg8)) (ix4 o k d 0))
    (fun o => rd (S := Cert.KernelIdeal.S16) (m ((c.tc : Thread Cert.KernelIdeal.nD Cert.KernelIdeal.τ).loc Cert.KernelIdeal.main_arg9)) (ix1 o))
    (fun o => rd (S := Cert.KernelIdeal.S16) (m ((c.tc : Thread Cert.KernelIdeal.nD Cert.KernelIdeal.τ).loc Cert.KernelIdeal.main_arg10)) (ix1 o))
    (fun o => rd (S := Cert.KernelIdeal.S16) (m ((c.tc : Thread Cert.KernelIdeal.nD Cert.KernelIdeal.τ).loc Cert.KernelIdeal.main_arg11)) (ix1 o))
    (fun b k j => rd_congr (S := Cert.KernelIdeal.S32x32x8192) e0 (ix3 b k j))
    (fun v w => (rd_congr (S := Cert.KernelIdeal.S1x16x16) e1 (ix3 0 v w)).trans (r1 (ix3 0 v w)))
    (fun o k d => rd_congr (S := Cert.KernelIdeal.S16x2x3x1) e2 (ix4 o k d 0))
    (fun o => rd_congr (S := Cert.KernelIdeal.S16) e3 (ix1 o))
    (fun o => rd_congr (S := Cert.KernelIdeal.S16) e4 (ix1 o))
    (fun o => rd_congr (S := Cert.KernelIdeal.S16) e5 (ix1 o))
    (fun o k => rd_congr (S := Cert.KernelIdeal.S16x2x1x1) e6 (ix4 o k 0 0))
    (fun o => rd_congr (S := Cert.KernelIdeal.S16) e7 (ix1 o))
    (fun o k d => rd_congr (S := Cert.KernelIdeal.S16x16x3x1) e8 (ix4 o k d 0))
    (fun o => rd_congr (S := Cert.KernelIdeal.S16) e9 (ix1 o))
    (fun o => rd_congr (S := Cert.KernelIdeal.S16) e10 (ix1 o))
    (fun o => rd_congr (S := Cert.KernelIdeal.S16) e11 (ix1 o))
    (fun o => ⟨_, r4 (ix1 o)⟩) (fun o => ⟨_, r10 (ix1 o)⟩)
    (i 0) (i 1) (i 2) (i 3)).trans ?_
  exact (Cert.KernelIdeal.ValueWhole.W7_v77 m g c _ _ _ _ _ _ _ _ _ _ _
    (fun _ _ _ => rfl) (fun _ _ _ => rfl) (fun _ => rfl) (fun _ => rfl) (fun _ => rfl) (fun _ _ => rfl) (fun _ => rfl) (fun _ _ _ => rfl)
    (fun _ => rfl) (fun _ => rfl) (fun _ => rfl)
    (i 0) (i 1) (i 2) (i 3)).symm

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Gen.ReferenceIdeal
public import proofs.«01_k».proof.Proof.Gen.Pre_regular
public import proofs.«01_k».proof.Proof.Kernel.Run
public import proofs.«01_k».proof.Proof.KernelIdeal.Run
public import proofs.«01_k».proof.Proof.Value.Equal
public import Idealize.ShloMosaic.Adequacy
public import Idealize.ShloMosaic.Init

@[expose] public section

noncomputable section

namespace Cert.Proof

open Idealize.ShloMosaic Idealize.SL.Sem

/-- The kernel, its idealization and the reference's idealization each run without fault, leave their arguments as
    launched and every counter at zero. -/
theorem frame_kernel : Cert.quiescent_Kernel := fun m ρ _ =>
  (θ_run Cert.Kernel.defs _ _).mono (fun _ h => ⟨fun c => Cert.Kernel.Run.args_end m ρ c (h.1 c), h.2⟩)
    (Cert.Kernel.Run.run (F := Bits) m ρ)
/-- The idealized kernel's frame: its arguments end as launched. -/
theorem frame_kernelIdeal : Cert.quiescent_KernelIdeal := fun m ρ _ =>
  (θ_run Cert.KernelIdeal.defs _ _).mono (fun _ h => ⟨fun c => Cert.KernelIdeal.Run.args_end m ρ c (h.1 c), h.2⟩)
    (Cert.KernelIdeal.Run.run (F := Ideal) m ρ)
/-- The idealized reference's frame: its arguments end as launched. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two frames under the precondition, which they do not need. -/
theorem frame_kernelIdeal_regular : Cert.quiescent_KernelIdeal_pre_regular := fun m ρ _ => frame_kernelIdeal m ρ trivial
/-- The same under the precondition. -/
theorem frame_referenceIdeal_regular : Cert.quiescent_ReferenceIdeal_pre_regular := fun m ρ _ => frame_referenceIdeal m ρ trivial

/-- From arguments that satisfy `regular`, the kernel's idealization and the reference's end with equal results. -/
theorem algebraic : Cert.algebraic_KernelIdeal_ReferenceIdeal_pre_regular := fun m g m' g' H E =>
  ⟨fun c => Cert.KernelIdeal.Run.W7 m g c (Proc.devRef .tc Cert.KernelIdeal.main_v77),
    (θ_run Cert.KernelIdeal.defs _ _).mono
      (fun _ h c => ⟨h.1 c _ (Cert.KernelIdeal.Run.mem_uc Cert.KernelIdeal.main_v77 (by decide)), Cert.KernelIdeal.Run.args_end m g c (h.1 c)⟩)
      (Cert.KernelIdeal.Run.run (F := Ideal) m g),
    (θ_run Cert.ReferenceIdeal.defs _ _).mono
      (fun _ h c => ⟨(h c).1.trans (Cert.Equal.results_equal m g m' c (H c) (E c)), (h c).2⟩)
      (Cert.Equal.reference_run (F := Ideal) m' g')⟩

/-- Everything claimed. -/
theorem claim : Cert.Claim :=
  ⟨Cert.Kernel.Gen.facts, Cert.KernelIdeal.Gen.facts, Cert.ReferenceIdeal.Gen.facts, Cert.Pre_regular.Gen.facts,
    frame_kernel, frame_kernelIdeal, frame_kernelIdeal_regular, frame_referenceIdeal, frame_referenceIdeal_regular, trivial, algebraic⟩

end Cert.Proof

end
